-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lengths_in_range [hPre_lengths_in_range : Cert.Pre_lengths_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_lengths_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lengths_in_range [hPre_lengths_in_range : Cert.Pre_lengths_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lengths_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_lengths_in_range [hKernelIdeal : Cert.KernelIdeal.Facts] [hPre_lengths_in_range : Cert.Pre_lengths_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lengths_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_lengths_in_range [hReferenceIdeal : Cert.ReferenceIdeal.Facts] [hPre_lengths_in_range : Cert.Pre_lengths_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lengths_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_lengths_in_range [hKernelIdeal : Cert.KernelIdeal.Facts] [hReferenceIdeal : Cert.ReferenceIdeal.Facts] [hPre_lengths_in_range : Cert.Pre_lengths_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lengths_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v8_1)) (v3 : (c : Dev Cert.KernelIdeal.nD) → Buf (Elt Ideal) ((c.tc : Thread Cert.KernelIdeal.nD Cert.KernelIdeal.τ).loc Cert.KernelIdeal.main_v8_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v8_1) = v2 c
          ∧ r.2.mem ((c.tc : Thread Cert.KernelIdeal.nD Cert.KernelIdeal.τ).loc Cert.KernelIdeal.main_v8_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v114) = v1 c
          ∧ r.2.mem ((c.tc : Thread Cert.ReferenceIdeal.nD Cert.ReferenceIdeal.τ).loc Cert.ReferenceIdeal.main_v115) = v2 c
          ∧ r.2.mem ((c.tc : Thread Cert.ReferenceIdeal.nD Cert.ReferenceIdeal.τ).loc Cert.ReferenceIdeal.main_v116) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_lengths_in_range : Cert.Pre_lengths_in_range.Facts),
    quiescent_Kernel (hKernel := hKernel)
    ∧ quiescent_KernelIdeal (hKernelIdeal := hKernelIdeal)
    ∧ quiescent_KernelIdeal_pre_lengths_in_range (hKernelIdeal := hKernelIdeal) (hPre_lengths_in_range := hPre_lengths_in_range)
    ∧ quiescent_ReferenceIdeal (hReferenceIdeal := hReferenceIdeal)
    ∧ quiescent_ReferenceIdeal_pre_lengths_in_range (hReferenceIdeal := hReferenceIdeal) (hPre_lengths_in_range := hPre_lengths_in_range)
    ∧ preserves_Kernel_KernelIdeal
    ∧ algebraic_KernelIdeal_ReferenceIdeal_pre_lengths_in_range (hKernelIdeal := hKernelIdeal) (hReferenceIdeal := hReferenceIdeal) (hPre_lengths_in_range := hPre_lengths_in_range)
-- ==== Pre_lengths_in_range.lean ====
abbrev S8x128x256 : Shape := ⟨3, ![8, 128, 256]⟩
abbrev S8x512x80 : Shape := ⟨3, ![8, 512, 80]⟩
abbrev S8 : Shape := ⟨1, ![8]⟩
abbrev S256x256 : Shape := ⟨2, ![256, 256]⟩
abbrev S256 : Shape := ⟨1, ![256]⟩
abbrev S256x2 : Shape := ⟨2, ![256, 2]⟩
abbrev S2 : Shape := ⟨1, ![2]⟩
abbrev S336x256 : Shape := ⟨2, ![336, 256]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S8x128x256 .f32) (main_arg1 : FVec F S8x512x80 .f32) (main_arg2 : IVec S8 32) (main_arg3 : IVec S8 32) (main_arg4 : FVec F S256x256 .f32) (main_arg5 : FVec F S256 .f32) (main_arg6 : FVec F S256x2 .f32) (main_arg7 : FVec F S2 .f32) (main_arg8 : FVec F S336x256 .f32) (main_arg9 : FVec F S256 .f32) (main_arg10 : FVec F S256x2 .f32) (main_arg11 : FVec F S2 .f32) : IVec S_ 1 :=
  let main_c : IVec S_ 32 := constantI S_ 32 1#32
  let main_v0 : IVec S8 32 := broadcastInDim S8 ![] bcast_S_S8 main_c
  let main_v1 : IVec S8 1 := cmpi .sge main_arg2 main_v0
  let main_c_0 : IVec S_ 32 := constantI S_ 32 128#32
  let main_v2 : IVec S8 32 := broadcastInDim S8 ![] bcast_S_S8 main_c_0
  let main_v3 : IVec S8 1 := cmpi .sle main_arg2 main_v2
  let main_v4 : IVec S8 1 := andi main_v1 main_v3
  let main_c_1 : IVec S_ 32 := constantI S_ 32 1#32
  let main_v5 : IVec S8 32 := broadcastInDim S8 ![] bcast_S_S8 main_c_1
  let main_v6 : IVec S8 1 := cmpi .sge main_arg3 main_v5
  let main_c_2 : IVec S_ 32 := constantI S_ 32 512#32
  let main_v7 : IVec S8 32 := broadcastInDim S8 ![] bcast_S_S8 main_c_2
  let main_v8 : IVec S8 1 := cmpi .sle main_arg3 main_v7
  let main_v9 : IVec S8 1 := andi main_v6 main_v8
  let main_v10 : IVec S8 1 := andi main_v4 main_v9
  let main_c_3 : IVec S_ 1 := constantI S_ 1 1#1
  let main_v11 : IVec S_ 1 := (fun x v => Host.reduce IntOp.andi x v reducesTo_S8_S_d0 h_S_) main_v10 main_c_3
  main_v11
-- ==== Kernel.lean ====
abbrev S8x128x256 : Shape := ⟨3, ![8, 128, 256]⟩
abbrev S8x512x80 : Shape := ⟨3, ![8, 512, 80]⟩
abbrev S8 : Shape := ⟨1, ![8]⟩
abbrev S256x256 : Shape := ⟨2, ![256, 256]⟩
abbrev S256 : Shape := ⟨1, ![256]⟩
abbrev S256x2 : Shape := ⟨2, ![256, 2]⟩
abbrev S2 : Shape := ⟨1, ![2]⟩
abbrev S336x256 : Shape := ⟨2, ![336, 256]⟩
abbrev S80x256 : Shape := ⟨2, ![80, 256]⟩
abbrev S1x256 : Shape := ⟨2, ![1, 256]⟩
abbrev S1x2 : Shape := ⟨2, ![1, 2]⟩
abbrev S_ : Shape := ⟨0, ![]⟩
abbrev S8x512x256 : Shape := ⟨3, ![8, 512, 256]⟩
abbrev S8x512x2 : Shape := ⟨3, ![8, 512, 2]⟩
abbrev S8x1x128 : Shape := ⟨3, ![8, 1, 128]⟩
abbrev S1x128x256 : Shape := ⟨3, ![1, 128, 256]⟩
abbrev S1x512x80 : Shape := ⟨3, ![1, 512, 80]⟩
abbrev S1x512x256 : Shape := ⟨3, ![1, 512, 256]⟩
abbrev S1x512x2 : Shape := ⟨3, ![1, 512, 2]⟩
abbrev S1x1x128 : Shape := ⟨3, ![1, 1, 128]⟩
abbrev S1 : Shape := ⟨1, ![1]⟩
abbrev S512x1 : Shape := ⟨2, ![512, 1]⟩
abbrev S512x128 : Shape := ⟨2, ![512, 128]⟩
abbrev S128x256 : Shape := ⟨2, ![128, 256]⟩
abbrev S512x256 : Shape := ⟨2, ![512, 256]⟩
abbrev S512x2 : Shape := ⟨2, ![512, 2]⟩
abbrev S512x80 : Shape := ⟨2, ![512, 80]⟩
abbrev S512x512 : Shape := ⟨2, ![512, 512]⟩
abbrev S1x1 : Shape := ⟨2, ![1, 1]⟩
abbrev S511x1 : Shape := ⟨2, ![511, 1]⟩
abbrev S1x512x1 : Shape := ⟨3, ![1, 512, 1]⟩
abbrev S1x1x1 : Shape := ⟨3, ![1, 1, 1]⟩
abbrev S512 : Shape := ⟨1, ![512]⟩
abbrev S8x1x1 : Shape := ⟨3, ![8, 1, 1]⟩

abbrev nBuf : Space → Nat
  | .hbm => 28
  | .vmem => 21
  | .smem => 2
  | _ => 0

abbrev bufTy : (tb : Table) → Fin (tcTables nBuf tb) → BufTy
  | .hbm, ⟨0, _⟩ => ⟨S8x128x256, .f32⟩
  | .hbm, ⟨1, _⟩ => ⟨S8x512x80, .f32⟩
  | .hbm, ⟨2, _⟩ => ⟨S256x256, .f32⟩
  | .hbm, ⟨3, _⟩ => ⟨S256, .f32⟩
  | .hbm, ⟨4, _⟩ => ⟨S256x2, .f32⟩
  | .hbm, ⟨5, _⟩ => ⟨S2, .f32⟩
  | .hbm, ⟨6, _⟩ => ⟨S336x256, .f32⟩
  | .hbm, ⟨7, _⟩ => ⟨S256, .f32⟩
  | .hbm, ⟨8, _⟩ => ⟨S256x2, .f32⟩
  | .hbm, ⟨9, _⟩ => ⟨S2, .f32⟩
  | .hbm, ⟨10, _⟩ => ⟨S256x256, .f32⟩
  | .hbm, ⟨11, _⟩ => ⟨S80x256, .f32⟩
  | .hbm, ⟨12, _⟩ => ⟨S1x256, .f32⟩
  | .hbm, ⟨13, _⟩ => ⟨S1x256, .f32⟩
  | .hbm, ⟨14, _⟩ => ⟨S1x2, .f32⟩
  | .hbm, ⟨15, _⟩ => ⟨S1x2, .f32⟩
  | .hbm, ⟨16, _⟩ => ⟨S_, .i32⟩
  | .hbm, ⟨17, _⟩ => ⟨S_, .i32⟩
  | .hbm, ⟨18, _⟩ => ⟨S_, .f32⟩
  | .hbm, ⟨19, _⟩ => ⟨S8x512x256, .f32⟩
  | .hbm, ⟨20, _⟩ => ⟨S8x512x2, .f32⟩
  | .hbm, ⟨21, _⟩ => ⟨S8x512x2, .f32⟩
  | .hbm, ⟨22, _⟩ => ⟨S8x1x128, .f32⟩
  | .hbm, ⟨23, _⟩ => ⟨S8x1x1, .f32⟩
  | .hbm, ⟨24, _⟩ => ⟨S8, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S1x128x256, .f32⟩
  | .local _ .vmem, ⟨1, _⟩ => ⟨S1x128x256, .f32⟩
  | .local _ .vmem, ⟨2, _⟩ => ⟨S1x512x80, .f32⟩
  | .local _ .vmem, ⟨3, _⟩ => ⟨S1x512x80, .f32⟩
  | .local _ .vmem, ⟨4, _⟩ => ⟨S256x256, .f32⟩
  | .local _ .vmem, ⟨5, _⟩ => ⟨S1x256, .f32⟩
  | .local _ .vmem, ⟨6, _⟩ => ⟨S256x2, .f32⟩
  | .local _ .vmem, ⟨7, _⟩ => ⟨S1x2, .f32⟩
  | .local _ .vmem, ⟨8, _⟩ => ⟨S256x256, .f32⟩
  | .local _ .vmem, ⟨9, _⟩ => ⟨S80x256, .f32⟩
  | .local _ .vmem, ⟨10, _⟩ => ⟨S1x256, .f32⟩
  | .local _ .vmem, ⟨11, _⟩ => ⟨S256x2, .f32⟩
  | .local _ .vmem, ⟨12, _⟩ => ⟨S1x2, .f32⟩
  | .local _ .vmem, ⟨13, _⟩ => ⟨S1x512x256, .f32⟩
  | .local _ .vmem, ⟨14, _⟩ => ⟨S1x512x256, .f32⟩
  | .local _ .vmem, ⟨15, _⟩ => ⟨S1x512x2, .f32⟩
  | .local _ .vmem, ⟨16, _⟩ => ⟨S1x512x2, .f32⟩
  | .local _ .vmem, ⟨17, _⟩ => ⟨S1x512x2, .f32⟩
  | .local _ .vmem, ⟨18, _⟩ => ⟨S1x512x2, .f32⟩
  | .local _ .vmem, ⟨19, _⟩ => ⟨S1x1x128, .f32⟩
  | .local _ .vmem, ⟨20, _⟩ => ⟨S1x1x128, .f32⟩
  | .local _ .smem, ⟨0, _⟩ => ⟨S8, .i32⟩
  | .local _ .smem, ⟨1, _⟩ => ⟨S8, .i32⟩
  | _, _ => ⟨S8x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_arg9 : Ref sig .tc := ⟨.hbm, 7, rfl⟩
abbrev main_arg10 : Ref sig .tc := ⟨.hbm, 8, rfl⟩
abbrev main_arg11 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev main_v8_3 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![8], ![false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S80x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x2 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x2 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S8x128x256 : Shape := ⟨3, ![8, 128, 256]⟩
abbrev S8x512x80 : Shape := ⟨3, ![8, 512, 80]⟩
abbrev S8 : Shape := ⟨1, ![8]⟩
abbrev S256x256 : Shape := ⟨2, ![256, 256]⟩
abbrev S256 : Shape := ⟨1, ![256]⟩
abbrev S256x2 : Shape := ⟨2, ![256, 2]⟩
abbrev S2 : Shape := ⟨1, ![2]⟩
abbrev S336x256 : Shape := ⟨2, ![336, 256]⟩
abbrev S512 : Shape := ⟨1, ![512]⟩
abbrev S1x512 : Shape := ⟨2, ![1, 512]⟩
abbrev S8x1 : Shape := ⟨2, ![8, 1]⟩
abbrev S8x512 : Shape := ⟨2, ![8, 512]⟩
abbrev S_ : Shape := ⟨0, ![]⟩
abbrev S8x512x1 : Shape := ⟨3, ![8, 512, 1]⟩
abbrev S1 : Shape := ⟨1, ![1]⟩
abbrev S1x1x1 : Shape := ⟨3, ![1, 1, 1]⟩
abbrev S8x512x256 : Shape := ⟨3, ![8, 512, 256]⟩
abbrev S1x1x256 : Shape := ⟨3, ![1, 1, 256]⟩
abbrev S8x512x2 : Shape := ⟨3, ![8, 512, 2]⟩
abbrev S1x1x2 : Shape := ⟨3, ![1, 1, 2]⟩
abbrev S8x513x1 : Shape := ⟨3, ![8, 513, 1]⟩
abbrev S8x1x1 : Shape := ⟨3, ![8, 1, 1]⟩
abbrev S8x512x336 : Shape := ⟨3, ![8, 512, 336]⟩
abbrev S1x1x512 : Shape := ⟨3, ![1, 1, 512]⟩
abbrev S8x512x512 : Shape := ⟨3, ![8, 512, 512]⟩
abbrev S8x1x512 : Shape := ⟨3, ![8, 1, 512]⟩

abbrev nBuf : Space → Nat
  | .hbm => 193
  | .vmem => 0
  | .smem => 0
  | _ => 0

abbrev hbmTy0_0 (i : Nat) : BufTy := match i % 128 with
  | 0 => ⟨S8x128x256, .f32⟩
  | 1 => ⟨S8x512x80, .f32⟩
  | 2 => ⟨S8, .i32⟩
  | 3 => ⟨S8, .i32⟩
  | 4 => ⟨S256x256, .f32⟩
  | 5 => ⟨S256, .f32⟩
  | 6 => ⟨S256x2, .f32⟩
  | 7 => ⟨S2, .f32⟩
  | 8 => ⟨S336x256, .f32⟩
  | 9 => ⟨S256, .f32⟩
  | 10 => ⟨S256x2, .f32⟩
  | 11 => ⟨S2, .f32⟩
  | 12 => ⟨S512, .i32⟩
  | 13 => ⟨S1x512, .i32⟩
  | 14 => ⟨S8x1, .i32⟩
  | 15 => ⟨S8x512, .i32⟩
  | 16 => ⟨S8x512, .i32⟩
  | 17 => ⟨S8x512, .i1⟩
  | 18 => ⟨S512, .f32⟩
  | 19 => ⟨S1x512, .f32⟩
  | 20 => ⟨S8, .f32⟩
  | 21 => ⟨S8x1, .f32⟩
  | 22 => ⟨S8, .f32⟩
  | 23 => ⟨S8x1, .f32⟩
  | 24 => ⟨S8x1, .f32⟩
  | 25 => ⟨S8x512, .f32⟩
  | 26 => ⟨S8x512, .f32⟩
  | 27 => ⟨S8x512, .f32⟩
  | 28 => ⟨S8x512, .f32⟩
  | 29 => ⟨S8x512, .i32⟩
  | 30 => ⟨S8x1, .i32⟩
  | 31 => ⟨S_, .i32⟩
  | 32 => ⟨S8x1, .i32⟩
  | 33 => ⟨S8x1, .i32⟩
  | 34 => ⟨S_, .i32⟩
  | 35 => ⟨S_, .i32⟩
  | 36 => ⟨S8x512, .i32⟩
  | 37 => ⟨S8x512, .i32⟩
  | 38 => ⟨S8x512, .i32⟩
  | 39 => ⟨S8x512, .i32⟩
  | 40 => ⟨S8x512x1, .i32⟩
  | 41 => ⟨S_, .i32⟩
  | 42 => ⟨S8x512x1, .i32⟩
  | 43 => ⟨S8x512x1, .i1⟩
  | 44 => ⟨S_, .i32⟩
  | 45 => ⟨S8x512x1, .i32⟩
  | 46 => ⟨S8x512x1, .i32⟩
  | 47 => ⟨S8x512x1, .i32⟩
  | 48 => ⟨S1, .i32⟩
  | 49 => ⟨S_, .i32⟩
  | 50 => ⟨S8x512x1, .i32⟩
  | 51 => ⟨S8x512x1, .i1⟩
  | 52 => ⟨S1x1x1, .i32⟩
  | 53 => ⟨S8x512x1, .i32⟩
  | 54 => ⟨S8x512x1, .i1⟩
  | 55 => ⟨S8x512x1, .i1⟩
  | 56 => ⟨S_, .i1⟩
  | 57 => ⟨S8x512, .i1⟩
  | 58 => ⟨S8x512x256, .f32⟩
  | 59 => ⟨S8x512x256, .i1⟩
  | 60 => ⟨S_, .f32⟩
  | 61 => ⟨S8x512x256, .f32⟩
  | 62 => ⟨S8x512x256, .f32⟩
  | 63 => ⟨S8x512x256, .f32⟩
  | 64 => ⟨S1x1x256, .f32⟩
  | 65 => ⟨S8x512x256, .f32⟩
  | 66 => ⟨S8x512x256, .f32⟩
  | 67 => ⟨S8x512x256, .f32⟩
  | 68 => ⟨S8x512x2, .f32⟩
  | 69 => ⟨S1x1x2, .f32⟩
  | 70 => ⟨S8x512x2, .f32⟩
  | 71 => ⟨S8x512x2, .f32⟩
  | 72 => ⟨S8x512x1, .f32⟩
  | 73 => ⟨S8x512x1, .f32⟩
  | 74 => ⟨S_, .i32⟩
  | 75 => ⟨S_, .f32⟩
  | 76 => ⟨S8x513x1, .f32⟩
  | 77 => ⟨S8x512x1, .f32⟩
  | 78 => ⟨S8x512x1, .i1⟩
  | 79 => ⟨S_, .f32⟩
  | 80 => ⟨S_, .f32⟩
  | 81 => ⟨S8x512x1, .f32⟩
  | 82 => ⟨S8x512x1, .f32⟩
  | 83 => ⟨S_, .f32⟩
  | 84 => ⟨S8x1, .f32⟩
  | 85 => ⟨S8x1x1, .f32⟩
  | 86 => ⟨S8x1x1, .i32⟩
  | 87 => ⟨S8x1x1, .f32⟩
  | 88 => ⟨S8x1x1, .f32⟩
  | 89 => ⟨S8x512x1, .f32⟩
  | 90 => ⟨S8x512x1, .f32⟩
  | 91 => ⟨S_, .f32⟩
  | 92 => ⟨S_, .f32⟩
  | 93 => ⟨S8x512x1, .f32⟩
  | 94 => ⟨S8x512x1, .i1⟩
  | 95 => ⟨S_, .f32⟩
  | 96 => ⟨S_, .f32⟩
  | 97 => ⟨S8x512x1, .f32⟩
  | 98 => ⟨S8x512x1, .f32⟩
  | 99 => ⟨S8x512x336, .f32⟩
  | 100 => ⟨S8x512x256, .f32⟩
  | 101 => ⟨S1x1x256, .f32⟩
  | 102 => ⟨S8x512x256, .f32⟩
  | 103 => ⟨S8x512x256, .f32⟩
  | 104 => ⟨S8x512x256, .f32⟩
  | 105 => ⟨S8x512x2, .f32⟩
  | 106 => ⟨S1x1x2, .f32⟩
  | 107 => ⟨S8x512x2, .f32⟩
  | 108 => ⟨S8x512x2, .f32⟩
  | 109 => ⟨S8x512x1, .f32⟩
  | 110 => ⟨S8x512x1, .f32⟩
  | 111 => ⟨S_, .i32⟩
  | 112 => ⟨S_, .f32⟩
  | 113 => ⟨S8x513x1, .f32⟩
  | 114 => ⟨S8x512x1, .f32⟩
  | 115 => ⟨S8x512x1, .i1⟩
  | 116 => ⟨S_, .f32⟩
  | 117 => ⟨S_, .f32⟩
  | 118 => ⟨S8x512x1, .f32⟩
  | 119 => ⟨S8x512x1, .f32⟩
  | 120 => ⟨S_, .f32⟩
  | 121 => ⟨S8x1, .f32⟩
  | 122 => ⟨S8x1x1, .f32⟩
  | 123 => ⟨S8x1x1, .i32⟩
  | 124 => ⟨S8x1x1, .f32⟩
  | 125 => ⟨S8x1x1, .f32⟩
  | 126 => ⟨S8x512x1, .f32⟩
  | 127 => ⟨S8x512x1, .f32⟩
  | _ => ⟨S8x128x256, .f32⟩

abbrev hbmTy0_1 (i : Nat) : BufTy := match i % 128 with
  | 0 => ⟨S_, .f32⟩
  | 1 => ⟨S_, .f32⟩
  | 2 => ⟨S8x512x1, .f32⟩
  | 3 => ⟨S8x512x1, .i1⟩
  | 4 => ⟨S_, .f32⟩
  | 5 => ⟨S_, .f32⟩
  | 6 => ⟨S8x512x1, .f32⟩
  | 7 => ⟨S8x512x1, .f32⟩
  | 8 => ⟨S512, .f32⟩
  | 9 => ⟨S1x512, .f32⟩
  | 10 => ⟨S8x512, .f32⟩
  | 11 => ⟨S8x512, .f32⟩
  | 12 => ⟨S8x512, .f32⟩
  | 13 => ⟨S8x512x1, .f32⟩
  | 14 => ⟨S1x1x512, .f32⟩
  | 15 => ⟨S8x512x512, .f32⟩
  | 16 => ⟨S8x512x512, .f32⟩
  | 17 => ⟨S8x512x512, .f32⟩
  | 18 => ⟨S_, .f32⟩
  | 19 => ⟨S8x512x512, .f32⟩
  | 20 => ⟨S8x512x512, .f32⟩
  | 21 => ⟨S8x512x512, .f32⟩
  | 22 => ⟨S_, .f32⟩
  | 23 => ⟨S8x512x512, .f32⟩
  | 24 => ⟨S8x512x512, .f32⟩
  | 25 => ⟨S8x1x512, .i1⟩
  | 26 => ⟨S_, .f32⟩
  | 27 => ⟨S_, .f32⟩
  | 28 => ⟨S8x512x512, .i1⟩
  | 29 => ⟨S8x512x512, .f32⟩
  | 30 => ⟨S8x512x512, .f32⟩
  | 31 => ⟨S_, .f32⟩
  | 32 => ⟨S8x512, .f32⟩
  | 33 => ⟨S_, .f32⟩
  | 34 => ⟨S8x512, .f32⟩
  | 35 => ⟨S8x512, .f32⟩
  | 36 => ⟨S8x512x1, .f32⟩
  | 37 => ⟨S8x512x512, .f32⟩
  | 38 => ⟨S8x512x512, .f32⟩
  | 39 => ⟨S8x512x512, .f32⟩
  | 40 => ⟨S_, .f32⟩
  | 41 => ⟨S8x512, .f32⟩
  | 42 => ⟨S8x512x1, .f32⟩
  | 43 => ⟨S8x512x512, .f32⟩
  | 44 => ⟨S8x512x512, .f32⟩
  | 45 => ⟨S8x512x256, .f32⟩
  | 46 => ⟨S8x512x1, .i1⟩
  | 47 => ⟨S_, .f32⟩
  | 48 => ⟨S_, .f32⟩
  | 49 => ⟨S8x512x256, .i1⟩
  | 50 => ⟨S8x512x256, .f32⟩
  | 51 => ⟨S8x512x256, .f32⟩
  | 52 => ⟨S8x512, .i1⟩
  | 53 => ⟨S8x512, .f32⟩
  | 54 => ⟨S8x512x1, .f32⟩
  | 55 => ⟨S8x512x1, .f32⟩
  | 56 => ⟨S8x512, .f32⟩
  | 57 => ⟨S8x512, .f32⟩
  | 58 => ⟨S_, .f32⟩
  | 59 => ⟨S_, .f32⟩
  | 60 => ⟨S_, .f32⟩
  | 61 => ⟨S_, .f32⟩
  | 62 => ⟨S_, .f32⟩
  | 63 => ⟨S8x512x2, .f32⟩
  | 64 => ⟨S8x512x2, .f32⟩
  | _ => ⟨S8x128x256, .f32⟩

abbrev hbmTy (i : Nat) : BufTy := match i / 128 with
  | 0 => hbmTy0_0 i
  | 1 => hbmTy0_1 i
  | _ => ⟨S8x128x256, .f32⟩

abbrev bufTy : (tb : Table) → Fin (tcTables nBuf tb) → BufTy
  | .hbm, ⟨i, _⟩ => hbmTy i
  | _, _ => ⟨S8x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_c_0 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_v21 : Ref sig .tc := ⟨.hbm, 39, rfl⟩
abbrev main_v22 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_c_1 : Ref sig .tc := ⟨.hbm, 48, rfl⟩
abbrev main_call1_c_2 : Ref sig .tc := ⟨.hbm, 49, rfl⟩
abbrev main_call1_v5 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_c_3 : Ref sig .tc := ⟨.hbm, 56, rfl⟩
abbrev main_call1_v11 : Ref sig .tc := ⟨.hbm, 57, rfl⟩
abbrev main_call1_v12 : Ref sig .tc := ⟨.hbm, 58, rfl⟩
abbrev main_call1_v13 : Ref sig .tc := ⟨.hbm, 59, rfl⟩
abbrev main_call1_cst : Ref sig .tc := ⟨.hbm, 60, rfl⟩
abbrev main_call1_v14 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_c_1 : Ref sig .tc := ⟨.hbm, 74, rfl⟩
abbrev main_call2_v0 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_cst : Ref sig .tc := ⟨.hbm, 79, rfl⟩
abbrev main_call3_v0 : Ref sig .tc := ⟨.hbm, 80, rfl⟩
abbrev main_call3_v1 : Ref sig .tc := ⟨.hbm, 81, rfl⟩
abbrev main_v38 : Ref sig .tc := ⟨.hbm, 82, rfl⟩
abbrev main_cst_2 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_call4_call0_cst : Ref sig .tc := ⟨.hbm, 91, rfl⟩
abbrev main_call4_call0_v0 : Ref sig .tc := ⟨.hbm, 92, rfl⟩
abbrev main_v46 : Ref sig .tc := ⟨.hbm, 93, rfl⟩
abbrev main_v47 : Ref sig .tc := ⟨.hbm, 94, rfl⟩
abbrev main_cst_3 : Ref sig .tc := ⟨.hbm, 95, rfl⟩
abbrev main_call5_v0 : Ref sig .tc := ⟨.hbm, 96, rfl⟩
abbrev main_call5_v1 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_c_4 : Ref sig .tc := ⟨.hbm, 111, rfl⟩
abbrev main_call6_v0 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_5 : Ref sig .tc := ⟨.hbm, 116, rfl⟩
abbrev main_call7_v0 : Ref sig .tc := ⟨.hbm, 117, rfl⟩
abbrev main_call7_v1 : Ref sig .tc := ⟨.hbm, 118, rfl⟩
abbrev main_v64 : Ref sig .tc := ⟨.hbm, 119, rfl⟩
abbrev main_cst_6 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_call8_call0_cst : Ref sig .tc := ⟨.hbm, 128, rfl⟩
abbrev main_call8_call0_v0 : Ref sig .tc := ⟨.hbm, 129, rfl⟩
abbrev main_v72 : Ref sig .tc := ⟨.hbm, 130, rfl⟩
abbrev main_v73 : Ref sig .tc := ⟨.hbm, 131, rfl⟩
abbrev main_cst_7 : Ref sig .tc := ⟨.hbm, 132, rfl⟩
abbrev main_call9_v0 : Ref sig .tc := ⟨.hbm, 133, rfl⟩
abbrev main_call9_v1 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_cst_8 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_cst_9 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_cst_10 : Ref sig .tc := ⟨.hbm, 154, rfl⟩
abbrev main_call10_v0 : Ref sig .tc := ⟨.hbm, 155, rfl⟩
abbrev main_call10_v1 : Ref sig .tc := ⟨.hbm, 156, rfl⟩
abbrev main_call10_v2 : Ref sig .tc := ⟨.hbm, 157, rfl⟩
abbrev main_v91 : Ref sig .tc := ⟨.hbm, 158, rfl⟩
abbrev main_cst_11 : Ref sig .tc := ⟨.hbm, 159, rfl⟩
abbrev main_v92 : Ref sig .tc := ⟨.hbm, 160, rfl⟩
abbrev main_cst_12 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_cst_13 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_cst_14 : Ref sig .tc := ⟨.hbm, 175, rfl⟩
abbrev main_call11_v0 : Ref sig .tc := ⟨.hbm, 176, rfl⟩
abbrev main_call11_v1 : Ref sig .tc := ⟨.hbm, 177, rfl⟩
abbrev main_call11_v2 : Ref sig .tc := ⟨.hbm, 178, rfl⟩
abbrev main_v105 : Ref sig .tc := ⟨.hbm, 179, rfl⟩
abbrev main_v106 : Ref sig .tc := ⟨.hbm, 180, rfl⟩
abbrev main_v107 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_cst_15 : Ref sig .tc := ⟨.hbm, 186, rfl⟩
abbrev main_v112 : Ref sig .tc := ⟨.hbm, 187, rfl⟩
abbrev main_cst_16 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩

abbrev nD : Nat := 1
abbrev τ : Topo := Topo.v7x

variable {F : FTy → Type} [FloatOps F]
-- ==== Proof.Frames.lean ====
/- The frames of the three programs: each runs to the end, leaves its arguments as they were and every
   semaphore counter at zero. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_lengths_in_range
public import Idealize.ShloMosaic.Adequacy
public import Idealize.ShloMosaic.Init

@[expose] public section

noncomputable section

namespace Cert.Proof

open Idealize.ShloMosaic Idealize.SL.Sem

/-- The kernel at bits: no index map reads the length tables, so the frame holds for every launch memory. -/
theorem frame_kernel : Cert.quiescent_Kernel (hKernel := Cert.Kernel.Gen.facts) :=
  fun m ρ _ => Cert.Kernel.Gen.frame m ρ True.intro

/-- The same at extended reals. -/
theorem frame_ideal : Cert.quiescent_KernelIdeal (hKernelIdeal := Cert.KernelIdeal.Gen.facts) :=
  fun m ρ _ => Cert.KernelIdeal.Gen.frame m ρ True.intro

/-- And under the range of the lengths, which the frame does not need. -/
theorem frame_ideal_pre : Cert.quiescent_KernelIdeal_pre_lengths_in_range
    (hKernelIdeal := Cert.KernelIdeal.Gen.facts) (hPre_lengths_in_range := Cert.Pre_lengths_in_range.Gen.facts) :=
  fun m ρ _ => Cert.KernelIdeal.Gen.frame m ρ True.intro

/-- The reference runs host operations only: its arguments are written by none, and it has no semaphore. -/
theorem frame_ref : Cert.quiescent_ReferenceIdeal (hReferenceIdeal := Cert.ReferenceIdeal.Gen.facts) :=
  fun m ρ _ => (θ_run Cert.ReferenceIdeal.defs _ _).mono
    (fun r h => ⟨fun c => (h c).2.2.2.2, Idealize.ShloMosaic.sem_eq_zero_of_no_sems (by decide) r.2⟩)
    (Cert.ReferenceIdeal.Value.run m ρ)

/-- And under the range of the lengths. -/
theorem frame_ref_pre : Cert.quiescent_ReferenceIdeal_pre_lengths_in_range
    (hReferenceIdeal := Cert.ReferenceIdeal.Gen.facts) (hPre_lengths_in_range := Cert.Pre_lengths_in_range.Gen.facts) :=
  fun m ρ _ => (θ_run Cert.ReferenceIdeal.defs _ _).mono
    (fun r h => ⟨fun c => (h c).2.2.2.2, Idealize.ShloMosaic.sem_eq_zero_of_no_sems (by decide) r.2⟩)
    (Cert.ReferenceIdeal.Value.run m ρ)

end Cert.Proof

end
-- ==== Proof.Value.Spec.lean ====
/- The functions both programs compute, element by element, over the extended reals: the arguments are read by
   coordinates (batch, row, column), the sums are sums over `Fin n`. -/
module

public import Idealize.ShloMosaic.Lib.Pointwise
public import Idealize.ShloMosaic.Lib.IdealHost

@[expose] public section

noncomputable section

namespace Cert.Proof.Spec

open Idealize.ShloMosaic

/-- The twelve arguments by coordinates. -/
structure Args where
  x : Fin 8 → Fin 128 → Fin 256 → EReal
  y : Fin 8 → Fin 512 → Fin 80 → EReal
  tl : Fin 8 → BitVec 32
  fl : Fin 8 → BitVec 32
  w1 : Fin 256 → Fin 256 → EReal
  b1 : Fin 256 → EReal
  w2 : Fin 256 → Fin 2 → EReal
  b2 : Fin 2 → EReal
  w1q : Fin 336 → Fin 256 → EReal
  b1q : Fin 256 → EReal
  w2q : Fin 256 → Fin 2 → EReal
  b2q : Fin 2 → EReal

/-- The two lengths of every batch entry are in range. -/
structure Args.InRange (A : Args) : Prop where
  tl_lo : ∀ b, 1 ≤ (A.tl b).toInt
  tl_hi : ∀ b, (A.tl b).toInt ≤ 128
  fl_lo : ∀ b, 1 ≤ (A.fl b).toInt
  fl_hi : ∀ b, (A.fl b).toInt ≤ 512

/-- A signed word as an extended real. -/
def real (w : BitVec 32) : EReal := ((w.toInt : ℝ) : EReal)

/-- A frame's number as an extended real. -/
def fr (t : Fin 512) : EReal := ((t.val : ℝ) : EReal)

/-- The text position a frame reads, as a word: the scaled frame number rounded down, at most the last position. -/
def posW (tl fl : BitVec 32) (t : Fin 512) : BitVec 32 :=
  IntOp.minsi (Ideal.fptosi 32 (Ideal.liftRound Int.floor (fr t * Ideal.div (real tl) (real fl)))) (tl - 1#32)

/-- The text position a frame reads. -/
def pos (tl fl : BitVec 32) (t : Fin 512) : Fin 128 :=
  ⟨(posW tl fl t).toNat % 128, Nat.mod_lt _ (by norm_num)⟩

variable (A : Args)

/-- The stretched text. -/
def xi (b : Fin 8) (t : Fin 512) (d : Fin 256) : EReal := A.x b (pos (A.tl b) (A.fl b) t) d

/-- The prior's two outputs per frame. -/
def outP (b : Fin 8) (t : Fin 512) (k : Fin 2) : EReal :=
  ∑ j, Ideal.tanh (∑ d, xi A b t d * A.w1 d j + A.b1 j) * A.w2 j k + A.b2 k

/-- The posterior's two outputs per frame: its first layer reads the stretched text and the frame's features. -/
def outQ (b : Fin 8) (t : Fin 512) (k : Fin 2) : EReal :=
  ∑ j, Ideal.tanh (∑ d : Fin 256, xi A b t d * A.w1q ⟨d.val, by omega⟩ j
      + ∑ d : Fin 80, A.y b t d * A.w1q ⟨256 + d.val, by omega⟩ j + A.b1q j) * A.w2q j k + A.b2q k

/-- A frame before the batch entry's end. -/
def valid (fl : BitVec 32) (t : Fin 512) : Prop := (t.val : ℤ) < fl.toInt

instance (fl : BitVec 32) (t : Fin 512) : Decidable (valid fl t) := inferInstanceAs (Decidable (_ < _))

/-- Moved one frame later, zero in front and past the end. -/
def shift (fl : BitVec 32) (z : Fin 512 → EReal) (t : Fin 512) : EReal :=
  if valid fl t then (if t.val < 1 then 0 else z ⟨t.val - 1, by omega⟩) else 0

/-- Centred by the mean and summed up to each frame, zero past the end. -/
def cum (fl : BitVec 32) (w : Fin 512 → EReal) (t : Fin 512) : EReal :=
  if valid fl t then ∑ s, (if s ≤ t then w s - Ideal.div (∑ u, w u) (real fl) else 0) else 0

/-- The prior's offsets. -/
def pz (b : Fin 8) : Fin 512 → EReal := cum (A.fl b) (shift (A.fl b) fun t => outP A b t 0)

/-- The posterior's offsets. -/
def qz (b : Fin 8) : Fin 512 → EReal := cum (A.fl b) (shift (A.fl b) fun t => outQ A b t 0)

/-- The scaled distance of frame `s` from frame `t`'s centre. -/
def dist (b : Fin 8) (t s : Fin 512) : EReal :=
  Ideal.div (fr t + qz A b t - fr s) (Ideal.ofBits .f32 0x41200000#32)

/-- The masked energy. -/
def energy (b : Fin 8) (t s : Fin 512) : EReal :=
  if valid (A.fl b) s then Ideal.ofBits .f32 0xBF000000#32 * (dist A b t s * dist A b t s)
  else Ideal.ofBits .f32 0xCE6E6B28#32

/-- The largest energy of a row. -/
def top (b : Fin 8) (t : Fin 512) : EReal :=
  Finset.univ.fold max (Ideal.ofBits .f32 0xFF800000#32) fun s => energy A b t s

/-- The unnormalized weight. -/
def weight (b : Fin 8) (t s : Fin 512) : EReal := Ideal.exp (energy A b t s - top A b t)

/-- The regulated text: the weights' mean of the stretched text, zero past the end. -/
def out (b : Fin 8) (t : Fin 512) (d : Fin 256) : EReal :=
  if valid (A.fl b) t then ∑ s, Ideal.div (weight A b t s) (∑ u, weight A b t u) * xi A b s d else 0

/-- One batch entry's part of the squared distance of the offsets. -/
def num (b : Fin 8) : EReal :=
  ∑ t, (qz A b t - pz A b t) * (qz A b t - pz A b t) * (if valid (A.fl b) t then 1 else 0)

/-- The mean squared distance of the offsets. -/
def func : EReal := Ideal.div (∑ b, num A b) (∑ b, real (A.fl b))

end Cert.Proof.Spec

end
-- ==== Proof.Value.Words.lean ====
/- Word facts: comparisons of frame numbers with lengths, the text position's range, a one-hot row as a selection. -/
module

public import proofs.«01_k».proof.Proof.Value.Spec

@[expose] public section

noncomputable section

namespace Cert.Proof.Spec

open Idealize.ShloMosaic

/-- A frame number as a word is itself, signed. -/
theorem toInt_frame (n : ℕ) (h : n < 1024) : (BitVec.ofNat 32 n).toInt = (n : ℤ) := by
  rw [BitVec.toInt_eq_toNat_of_lt] <;> simp only [BitVec.toNat_ofNat] <;> omega

/-- And converted it is the frame's number. -/
theorem sitofp_frame (t : Fin 512) : FloatOps.sitofp (F := Ideal) FTy.f32 (BitVec.ofNat 32 t.val) = fr t := by
  show (((BitVec.ofNat 32 t.val).toInt : ℝ) : EReal) = fr t
  rw [toInt_frame _ (by omega)]
  simp [fr]

/-- Conversion of a word. -/
theorem sitofp_real (w : BitVec 32) : FloatOps.sitofp (F := Ideal) FTy.f32 w = real w := rfl

/-- Below the length. -/
theorem slt_iff (fl : BitVec 32) (t : Fin 512) :
    IntOp.cmpi .slt (BitVec.ofNat 32 t.val) fl = 1#1 ↔ valid fl t := by
  unfold IntOp.cmpi valid
  simp only [BitVec.slt, toInt_frame t.val (by omega)]
  by_cases h : (t.val : ℤ) < fl.toInt <;> simp [h]

/-- At or past the length. -/
theorem sge_iff (fl : BitVec 32) (t : Fin 512) :
    IntOp.cmpi .sge (BitVec.ofNat 32 t.val) fl = 1#1 ↔ ¬ valid fl t := by
  unfold IntOp.cmpi valid
  simp only [BitVec.sle, toInt_frame t.val (by omega)]
  by_cases h : (t.val : ℤ) < fl.toInt
  · have : ¬ fl.toInt ≤ (t.val : ℤ) := not_le.mpr h
    rw [decide_eq_false this]; simp [h]
  · have : fl.toInt ≤ (t.val : ℤ) := not_lt.mp h
    rw [decide_eq_true this]; simp [h]

/-- The valid frames selected. -/
theorem select_slt {α : Type} (fl : BitVec 32) (t : Fin 512) (a b : α) :
    Scalar.select (IntOp.cmpi .slt (BitVec.ofNat 32 t.val) fl) a b = if valid fl t then a else b := by
  show (if IntOp.cmpi .slt (BitVec.ofNat 32 t.val) fl = 1#1 then a else b) = _
  by_cases h : valid fl t
  · rw [if_pos h, if_pos ((slt_iff fl t).mpr h)]
  · rw [if_neg h, if_neg fun h' => h ((slt_iff fl t).mp h')]

/-- The other frames selected. -/
theorem select_sge {α : Type} (fl : BitVec 32) (t : Fin 512) (a b : α) :
    Scalar.select (IntOp.cmpi .sge (BitVec.ofNat 32 t.val) fl) a b = if valid fl t then b else a := by
  show (if IntOp.cmpi .sge (BitVec.ofNat 32 t.val) fl = 1#1 then a else b) = _
  by_cases h : valid fl t
  · rw [if_pos h, if_neg fun h' => (sge_iff fl t).mp h' h]
  · rw [if_neg h, if_pos ((sge_iff fl t).mpr h)]

/-- A bit widened and converted is one or zero. -/
theorem sitofp_bit (c : BitVec 1) :
    FloatOps.sitofp (F := Ideal) FTy.f32 (BitVec.setWidth 32 c) = if c = 1#1 then (1 : EReal) else 0 := by
  show (((BitVec.setWidth 32 c).toInt : ℝ) : EReal) = _
  have hb : ∀ c : BitVec 1, c = 0#1 ∨ c = 1#1 := by decide
  rcases hb c with rfl | rfl
  · have : (BitVec.setWidth 32 (0#1 : BitVec 1)).toInt = 0 := by decide
    rw [this]; simp
  · have : (BitVec.setWidth 32 (1#1 : BitVec 1)).toInt = 1 := by decide
    rw [this]; simp

/-- The triangle of ones: frames up to `t`. -/
theorem tri (t s : Fin 512) :
    FloatOps.sitofp (F := Ideal) FTy.f32
      (BitVec.setWidth 32 (IntOp.cmpi .sle (BitVec.ofNat 32 s.val) (BitVec.ofNat 32 t.val)))
      = if s ≤ t then (1 : EReal) else 0 := by
  rw [sitofp_bit]
  unfold IntOp.cmpi
  simp only [BitVec.sle, toInt_frame t.val (by omega), toInt_frame s.val (by omega)]
  by_cases h : s ≤ t
  · have : (s.val : ℤ) ≤ t.val := by exact_mod_cast h
    simp [h, this]
  · have : ¬ (s.val : ℤ) ≤ t.val := by exact_mod_cast h
    simp [h, this]

/-- A triangle row's product is the sum up to the frame. -/
theorem tri_mul (t s : Fin 512) (a : EReal) :
    (if s ≤ t then (1 : EReal) else 0) * a = if s ≤ t then a else 0 := by
  split <;> simp

/-! ## The text position -/

/-- The scaled frame number, rounded down, is a nonnegative word. -/
theorem floor_nonneg (tl fl : BitVec 32) (htl : 1 ≤ tl.toInt) (hfl : 1 ≤ fl.toInt) (t : Fin 512) :
    0 ≤ (Ideal.fptosi 32 (Ideal.liftRound Int.floor (fr t * Ideal.div (real tl) (real fl)))).toInt := by
  have h1 : (0 : ℝ) < (fl.toInt : ℝ) := by exact_mod_cast (by omega : (0 : ℤ) < fl.toInt)
  have h0 : (0 : ℝ) < (tl.toInt : ℝ) := by exact_mod_cast (by omega : (0 : ℤ) < tl.toInt)
  have hd : Ideal.div (real tl) (real fl) = (((tl.toInt : ℝ) / (fl.toInt : ℝ) : ℝ) : EReal) := by
    unfold real
    rw [Ideal.div_coe h1.ne', ← EReal.coe_mul, mul_one_div]
  rw [hd, fr, ← EReal.coe_mul]
  have hr : (0 : ℝ) ≤ (t.val : ℝ) * ((tl.toInt : ℝ) / (fl.toInt : ℝ)) := by positivity
  rw [Ideal.liftRound_coe]
  have hf : (0 : ℤ) ≤ ⌊(t.val : ℝ) * ((tl.toInt : ℝ) / (fl.toInt : ℝ))⌋ := Int.floor_nonneg.mpr hr
  generalize ⌊(t.val : ℝ) * ((tl.toInt : ℝ) / (fl.toInt : ℝ))⌋ = z at hf
  unfold Ideal.fptosi
  rw [Ideal.toIntClamped_coe, if_pos (by exact_mod_cast hf), Int.floor_intCast]
  rw [BitVec.toInt_ofInt_eq_self (by norm_num)]
  · exact le_max_of_le_right (le_min (by norm_num) hf)
  · exact le_max_of_le_left (by norm_num)
  · exact max_lt (by norm_num) (lt_of_le_of_lt (min_le_left _ _) (by norm_num))

/-- The last position's word. -/
theorem toInt_pred (tl : BitVec 32) (lo : 1 ≤ tl.toInt) (hi : tl.toInt ≤ 128) : (tl - 1#32).toInt = tl.toInt - 1 := by
  rw [BitVec.toInt_sub]
  have : (1#32).toInt = 1 := by decide
  rw [this]
  apply Int.bmod_eq_of_le <;> omega

/-- The position's word is between 0 and 127. -/
theorem posW_range (tl fl : BitVec 32) (htl : 1 ≤ tl.toInt) (htl' : tl.toInt ≤ 128) (hfl : 1 ≤ fl.toInt) (t : Fin 512) :
    0 ≤ (posW tl fl t).toInt ∧ (posW tl fl t).toInt ≤ 127 := by
  have h := floor_nonneg tl fl htl hfl t
  have hp := toInt_pred tl htl htl'
  unfold posW
  generalize Ideal.fptosi 32 (Ideal.liftRound Int.floor (fr t * Ideal.div (real tl) (real fl))) = f at h ⊢
  unfold IntOp.minsi
  split
  · rename_i hs
    have hs' : f.toInt < (tl - 1#32).toInt := by simpa [BitVec.slt] using hs
    omega
  · omega

/-- A nonnegative signed word is its unsigned value. -/
theorem toNat_of_nonneg (w : BitVec 32) (h : 0 ≤ w.toInt) : (w.toNat : ℤ) = w.toInt := by
  have := BitVec.toInt_eq_toNat_cond w
  have hw := w.isLt
  split at this <;> omega

/-- So the position is the word's value. -/
theorem pos_val (tl fl : BitVec 32) (htl : 1 ≤ tl.toInt) (htl' : tl.toInt ≤ 128) (hfl : 1 ≤ fl.toInt) (t : Fin 512) :
    (pos tl fl t).val = (posW tl fl t).toNat := by
  obtain ⟨h0, h1⟩ := posW_range tl fl htl htl' hfl t
  have := toNat_of_nonneg _ h0
  unfold pos
  simp only
  omega

/-- The reference's order: the larger of zero and the scaled number changes nothing, and the smaller of two words does
    not depend on their order. -/
theorem posW_ref (tl fl : BitVec 32) (htl : 1 ≤ tl.toInt) (hfl : 1 ≤ fl.toInt) (t : Fin 512) :
    IntOp.minsi (IntOp.subi tl 1#32) (IntOp.maxsi 0#32
      (Ideal.fptosi 32 (Ideal.liftRound Int.floor (fr t * Ideal.div (real tl) (real fl))))) = posW tl fl t := by
  have h := floor_nonneg tl fl htl hfl t
  unfold posW
  generalize Ideal.fptosi 32 (Ideal.liftRound Int.floor (fr t * Ideal.div (real tl) (real fl))) = f at h ⊢
  have hm : IntOp.maxsi 0#32 f = f := by
    unfold IntOp.maxsi
    have h0 : (0#32).toInt = 0 := by decide
    split
    · rename_i hs
      have hs' : f.toInt < (0#32).toInt := by simpa [BitVec.slt] using hs
      omega
    · rfl
  rw [hm]
  show IntOp.minsi (tl - 1#32) f = IntOp.minsi f (tl - 1#32)
  generalize tl - 1#32 = g
  unfold IntOp.minsi
  simp only [BitVec.slt, decide_eq_true_eq]
  split <;> split
  · omega
  · rfl
  · rfl
  · exact BitVec.toInt_inj.mp (by omega)

/-- A one-hot row times a column is the column at the row's position. -/
theorem onehot (p : BitVec 32) (j : Fin 128) (hp : p.toNat = j.val) (v : Fin 128 → EReal) :
    ∑ x : Fin 128, FloatOps.sitofp (F := Ideal) FTy.f32
      (BitVec.setWidth 32 (IntOp.cmpi .eq (BitVec.ofNat 32 x.val) p)) * v x = v j := by
  have hc : ∀ x : Fin 128, IntOp.cmpi .eq (BitVec.ofNat 32 x.val) p = 1#1 ↔ x = j := by
    intro x
    have e : BitVec.ofNat 32 x.val = p ↔ x = j := by
      constructor
      · intro h
        have := congrArg BitVec.toNat h
        rw [BitVec.toNat_ofNat, hp] at this
        exact Fin.ext (by omega)
      · rintro rfl
        apply BitVec.eq_of_toNat_eq
        rw [BitVec.toNat_ofNat, hp]
        omega
    unfold IntOp.cmpi
    show BitVec.ofBool (BitVec.ofNat 32 x.val == p) = 1#1 ↔ _
    rw [← e]
    by_cases h : BitVec.ofNat 32 x.val = p
    · rw [beq_iff_eq.mpr h]; simp [h]
    · rw [beq_eq_false_iff_ne.mpr h]; simp [h]
  have hs : ∀ x : Fin 128, FloatOps.sitofp (F := Ideal) FTy.f32
      (BitVec.setWidth 32 (IntOp.cmpi .eq (BitVec.ofNat 32 x.val) p)) * v x = if x = j then v x else 0 := by
    intro x
    rw [sitofp_bit]
    by_cases h : x = j
    · rw [if_pos ((hc x).mpr h), if_pos h, one_mul]
    · rw [if_neg fun h' => h ((hc x).mp h'), if_neg h, zero_mul]
  rw [Finset.sum_congr rfl fun x _ => hs x, Finset.sum_ite_eq' Finset.univ j v, if_pos (Finset.mem_univ _)]

end Cert.Proof.Spec

end
-- ==== Proof.Value.Ops.lean ====
/- Two host operations read at an index: the running sum along the frames, and the gather of one text row per frame. -/
module

public import proofs.«01_k».proof.Proof.Gen.ReferenceIdeal
public import proofs.«01_k».proof.Proof.Value.Words

@[expose] public section

set_option maxRecDepth 16384

noncomputable section

namespace Cert.Proof.Ops

open Idealize.ShloMosaic Cert.ReferenceIdeal

/-- A window's positions along the frames. -/
def winIdx (k : Fin 512) : (⟨3, ![1, 512, 1]⟩ : Shape).Idx := ix3 (0 : Fin 1) k (0 : Fin 1)

/-- A sum over the window's positions is a sum over the frames. -/
theorem sum_win (g : (⟨3, ![1, 512, 1]⟩ : Shape).Idx → EReal) : ∑ i, g i = ∑ k : Fin 512, g (winIdx k) := by
  symm
  refine Fintype.sum_bijective winIdx ⟨fun a c e => congrFun e 1, fun i => ⟨i 1, ?_⟩⟩ _ _ fun _ => rfl
  funext a
  match a with
  | ⟨0, _⟩ => exact Subsingleton.elim (α := Fin 1) _ _
  | ⟨1, _⟩ => rfl
  | ⟨2, _⟩ => exact Subsingleton.elim (α := Fin 1) _ _

/-- Adding along a list from an initial value is the initial value and the list's sum. -/
theorem foldl_add {n : ℕ} (g : Fin n → EReal) (l : List (Fin n)) (v : EReal) :
    l.foldl (fun r k => r + g k) v = v + (l.map g).sum := by
  induction l generalizing v with
  | nil => simp
  | cons a l ih => rw [List.foldl_cons, ih, List.map_cons, List.sum_cons, add_assoc]

/-- The window ending at frame `t`, padded low, holds the frames up to `t`. -/
theorem sum_upto (x : Fin 512 → EReal) (t : Fin 512) :
    ∑ k : Fin 512, (if h : 511 ≤ t.val + k.val then x ⟨t.val + k.val - 511, by omega⟩ else 0)
      = ∑ s, if s ≤ t then x s else 0 := by
  rw [← Finset.sum_filter]
  have e : ∑ k : Fin 512, (if h : 511 ≤ t.val + k.val then x ⟨t.val + k.val - 511, by omega⟩ else 0)
      = ∑ k ∈ Finset.univ.filter (fun k : Fin 512 => 511 ≤ t.val + k.val), x ⟨t.val + k.val - 511, by omega⟩ := by
    rw [Finset.sum_filter]
    refine Finset.sum_congr rfl fun k _ => ?_
    split <;> rfl
  rw [e]
  refine Finset.sum_bij' (fun k _ => ⟨t.val + k.val - 511, by omega⟩) (fun s hs => ⟨s.val + 511 - t.val, by
    have := (Finset.mem_filter.mp hs).2
    have : s.val ≤ t.val := this
    omega⟩) ?_ ?_ ?_ ?_ ?_
  · intro k hk
    refine Finset.mem_filter.mpr ⟨Finset.mem_univ _, ?_⟩
    show t.val + k.val - 511 ≤ t.val
    omega
  · intro s hs
    have : s.val ≤ t.val := (Finset.mem_filter.mp hs).2
    refine Finset.mem_filter.mpr ⟨Finset.mem_univ _, ?_⟩
    show 511 ≤ t.val + (s.val + 511 - t.val)
    omega
  · intro k hk
    have : 511 ≤ t.val + k.val := (Finset.mem_filter.mp hk).2
    refine Fin.ext ?_
    show t.val + k.val - 511 + 511 - t.val = k.val
    omega
  · intro s hs
    have : s.val ≤ t.val := (Finset.mem_filter.mp hs).2
    refine Fin.ext ?_
    show t.val + (s.val + 511 - t.val) - 511 = s.val
    omega
  · intro k hk
    rfl

/-- The running sum read at a frame: the sum of the frames up to it. -/
theorem runningSum (x : FVec Ideal S8x512x1 .f32) (init : S_.Idx → Ideal .f32) (h0 : ∀ i, init i = (0 : EReal))
    (h : S8x512x1.ReduceWindows (![1, 512, 1] : Fin 3 → Nat) ![1, 1, 1] ![0, 511, 0] ![0, 0, 0] S8x512x1)
    (hu : 0 < S_.numel) (b : Fin 8) (t : Fin 512) (c : Fin 1) :
    Host.reduceWindowAdd (F := Ideal) ![1, 512, 1] ![1, 1, 1] ![0, 511, 0] ![0, 0, 0] x init h hu (ix3 b t c)
      = ∑ s : Fin 512, if s ≤ t then x (ix3 b s 0) else (0 : EReal) := by
  obtain rfl : c = 0 := Subsingleton.elim _ _
  show Host.reduceWindow (fun a c : EReal => a + c) ![1, 512, 1] ![1, 1, 1] ![0, 511, 0] ![0, 0, 0] x
    (fun _ : S_.Idx => init (Shape.Idx.first hu)) h hu (ix3 b t 0) = _
  rw [h0]
  unfold Host.reduceWindow
  refine (foldl_add _ _ _).trans ?_
  rw [zero_add, ← List.ofFn_eq_map, List.sum_ofFn]
  have e : ∀ i : (⟨3, ![1, 512, 1]⟩ : Shape).Idx, (i 1).val < 512 := fun i => (i 1).isLt
  rw [← sum_upto (fun s => x (ix3 b s 0))]
  refine Eq.trans (Finset.sum_congr rfl fun n _ => ?_) ((Equiv.sum_comp (Shape.rowMajor (⟨3, ![1, 512, 1]⟩ : Shape)).symm
    (fun i : (⟨3, ![1, 512, 1]⟩ : Shape).Idx => if hk : 511 ≤ t.val + (i 1).val then
      x (ix3 b ⟨t.val + (i 1).val - 511, by have := e i; omega⟩ 0) else (0 : EReal))).trans (sum_win _))
  dsimp only
  have h0 : ((Shape.rowMajor (⟨3, ![1, 512, 1]⟩ : Shape)).symm n 0).val = 0 := Nat.lt_one_iff.mp ((Shape.rowMajor (⟨3, ![1, 512, 1]⟩ : Shape)).symm n 0).isLt
  have h2 : ((Shape.rowMajor (⟨3, ![1, 512, 1]⟩ : Shape)).symm n 2).val = 0 := Nat.lt_one_iff.mp ((Shape.rowMajor (⟨3, ![1, 512, 1]⟩ : Shape)).symm n 2).isLt
  have h1 := e ((Shape.rowMajor (⟨3, ![1, 512, 1]⟩ : Shape)).symm n)
  by_cases hk : 511 ≤ t.val + ((Shape.rowMajor (⟨3, ![1, 512, 1]⟩ : Shape)).symm n 1).val
  · rw [dif_pos hk, dif_pos]
    · refine congrArg x (funext fun a => Fin.ext ?_)
      match a with
      | ⟨0, _⟩ => show b.val * 1 + ((Shape.rowMajor (⟨3, ![1, 512, 1]⟩ : Shape)).symm n 0).val - 0 = b.val; omega
      | ⟨1, _⟩ =>
        show t.val * 1 + ((Shape.rowMajor (⟨3, ![1, 512, 1]⟩ : Shape)).symm n 1).val - 511 = t.val + ((Shape.rowMajor (⟨3, ![1, 512, 1]⟩ : Shape)).symm n 1).val - 511
        omega
      | ⟨2, _⟩ => show 0 * 1 + ((Shape.rowMajor (⟨3, ![1, 512, 1]⟩ : Shape)).symm n 2).val - 0 = 0; omega
    · intro a
      match a with
      | ⟨0, _⟩ =>
        show 0 ≤ b.val * 1 + ((Shape.rowMajor (⟨3, ![1, 512, 1]⟩ : Shape)).symm n 0).val
          ∧ b.val * 1 + ((Shape.rowMajor (⟨3, ![1, 512, 1]⟩ : Shape)).symm n 0).val - 0 < 8
        omega
      | ⟨1, _⟩ =>
        show 511 ≤ t.val * 1 + ((Shape.rowMajor (⟨3, ![1, 512, 1]⟩ : Shape)).symm n 1).val
          ∧ t.val * 1 + ((Shape.rowMajor (⟨3, ![1, 512, 1]⟩ : Shape)).symm n 1).val - 511 < 512
        omega
      | ⟨2, _⟩ =>
        show 0 ≤ 0 * 1 + ((Shape.rowMajor (⟨3, ![1, 512, 1]⟩ : Shape)).symm n 2).val
          ∧ 0 * 1 + ((Shape.rowMajor (⟨3, ![1, 512, 1]⟩ : Shape)).symm n 2).val - 0 < 1
        omega
  · rw [dif_neg hk, dif_neg]
    intro hin
    have h511 : 511 ≤ t.val * 1 + ((Shape.rowMajor (⟨3, ![1, 512, 1]⟩ : Shape)).symm n 1).val := (hin 1).1
    omega

/-- The gather read at an element: the text row the frame's index word names, when that is a row. -/
theorem gatherRow (x : FVec Ideal S8x128x256 .f32) (idx : IVec S8x512x1 32) (b : Fin 8) (t : Fin 512) (d : Fin 256)
    (j : Fin 128) (hj : (idx (ix3 b t 0)).toInt.toNat = j.val) :
    Host.gather gather_S8x128x256_S8x512x1_S8x512x256_2_1_0_0_1_2_11256 x idx (ix3 b t d) = x (ix3 b j d) := by
  unfold Host.gather
  refine congrArg x (funext fun a => Fin.ext ?_)
  have hsi : ∀ n, gather_S8x128x256_S8x512x1_S8x512x256_2_1_0_0_1_2_11256.siIdx (ix3 b t d) n = ix3 b t 0 := by
    intro n
    funext e
    refine Fin.ext ?_
    match e with
    | ⟨0, _⟩ => rfl
    | ⟨1, _⟩ => rfl
    | ⟨2, _⟩ => exact Nat.lt_one_iff.mp (Fin.isLt _)
  show gather_S8x128x256_S8x512x1_S8x512x256_2_1_0_0_1_2_11256.start (ix3 b t d) idx a
    + gather_S8x128x256_S8x512x1_S8x512x256_2_1_0_0_1_2_11256.batchCoord (ix3 b t d) a
    + gather_S8x128x256_S8x512x1_S8x512x256_2_1_0_0_1_2_11256.offCoord (ix3 b t d) a = _
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 3) ∈ gather_S8x128x256_S8x512x1_S8x512x256_2_1_0_0_1_2_11256.operandBatchingDims from
      List.mem_singleton.mpr rfl)]
    show 0 + b.val + 0 = b.val
    omega
  · rw [GatherDims.batchCoord_eq_zero _ _ _ (by decide),
      GatherDims.offCoord_eq_zero _ _ _ (fun h => ((GatherDims.mem_sKept _ _).mp h).1 (List.mem_singleton.mpr rfl))]
    unfold GatherDims.start
    rw [dif_pos (show (1 : Fin 3) ∈ gather_S8x128x256_S8x512x1_S8x512x256_2_1_0_0_1_2_11256.startIndexMap from
      List.mem_singleton.mpr rfl), hsi, hj]
    show min j.val 127 + 0 + 0 = j.val
    omega
  · rw [GatherDims.batchCoord_eq_zero _ _ _ (by decide)]
    unfold GatherDims.start GatherDims.offCoord
    rw [dif_neg (by decide), dif_pos (by decide)]
    show 0 + 0 + d.val = d.val
    omega

end Cert.Proof.Ops

end
-- ==== Proof.Value.RefText.lean ====
/- The reference's stretched text and its two networks, element by element. -/
module

public import proofs.«01_k».proof.Proof.Gen.ReferenceIdeal.Run
public import proofs.«01_k».proof.Proof.Value.Ops

@[expose] public section

set_option maxRecDepth 16384

noncomputable section

namespace Cert.Proof.Ref

open Idealize.ShloMosaic Idealize.SL.Sem Idealize.ShloMosaic.StableHlo Cert.ReferenceIdeal Cert.ReferenceIdeal.Gen
  Cert.ReferenceIdeal.Value Cert.Proof.Spec

/-- The arguments by coordinates, from the launch contents. -/
def args (V : Valuation τ sig (Elt Ideal)) : Args where
  x b i d := (V (Proc.devRef .tc main_arg0) : FVec Ideal S8x128x256 .f32) (ix3 b i d)
  y b t d := (V (Proc.devRef .tc main_arg1) : FVec Ideal S8x512x80 .f32) (ix3 b t d)
  tl b := (V (Proc.devRef .tc main_arg2) : IVec S8 32) (ix1 b)
  fl b := (V (Proc.devRef .tc main_arg3) : IVec S8 32) (ix1 b)
  w1 d j := (V (Proc.devRef .tc main_arg4) : FVec Ideal S256x256 .f32) (ix2 d j)
  b1 j := (V (Proc.devRef .tc main_arg5) : FVec Ideal S256 .f32) (ix1 j)
  w2 j k := (V (Proc.devRef .tc main_arg6) : FVec Ideal S256x2 .f32) (ix2 j k)
  b2 k := (V (Proc.devRef .tc main_arg7) : FVec Ideal S2 .f32) (ix1 k)
  w1q d j := (V (Proc.devRef .tc main_arg8) : FVec Ideal S336x256 .f32) (ix2 d j)
  b1q j := (V (Proc.devRef .tc main_arg9) : FVec Ideal S256 .f32) (ix1 j)
  w2q j k := (V (Proc.devRef .tc main_arg10) : FVec Ideal S256x2 .f32) (ix2 j k)
  b2q k := (V (Proc.devRef .tc main_arg11) : FVec Ideal S2 .f32) (ix1 k)

variable (V : Valuation τ sig (Elt Ideal))

/-- The padding mask's bit. -/
theorem v5_apply (b : Fin 8) (t : Fin 512) :
    res_main_v5 (F := Ideal) V (ix2 b t) = IntOp.cmpi .sge (BitVec.ofNat 32 t.val) ((args V).fl b) := by
  pointwise [res_main_v5]
  rfl

/-- The clipped text position is the specification's word. -/
theorem v22_eq (hA : (args V).InRange) (b : Fin 8) (t : Fin 512) (c : Fin 1) :
    res_main_v22 (F := Ideal) V (ix3 b t c) = posW ((args V).tl b) ((args V).fl b) t := by
  pointwise [res_main_v22]
  rw [sitofp_frame]
  exact posW_ref ((args V).tl b) ((args V).fl b) (hA.tl_lo b) (hA.fl_lo b) t

/-- A nonnegative position is not wrapped. -/
theorem call1_eq (hA : (args V).InRange) (b : Fin 8) (t : Fin 512) (c : Fin 1) :
    res_main_call1_v4 (F := Ideal) V (ix3 b t c) = posW ((args V).tl b) ((args V).fl b) t := by
  pointwise [res_main_call1_v4]
  obtain rfl : c = 0 := Subsingleton.elim _ _
  have h0 := (posW_range ((args V).tl b) ((args V).fl b) (hA.tl_lo b) (hA.tl_hi b) (hA.fl_lo b) t).1
  rw [v22_eq V hA]
  have hc : IntOp.cmpi .slt (posW ((args V).tl b) ((args V).fl b) t) 0#32 = 0#1 := by
    unfold IntOp.cmpi
    have : (BitVec.slt (posW ((args V).tl b) ((args V).fl b) t) 0#32) = false := by
      simp only [BitVec.slt, BitVec.toInt_zero]
      exact decide_eq_false (by omega)
    simp [this]
  show Scalar.select (IntOp.cmpi .slt _ 0#32) _ _ = _
  rw [hc]
  rfl

/-- Every position is a row of the text. -/
theorem inside (w : BitVec 32) (h0 : 0 ≤ w.toInt) (h1 : w.toInt ≤ 127) :
    IntOp.andi (IntOp.cmpi .sge w 0#32) (IntOp.cmpi .sle w 127#32) = 1#1 := by
  unfold IntOp.cmpi
  have e1 : BitVec.sle 0#32 w = true := by
    simp only [BitVec.sle, BitVec.toInt_zero]
    exact decide_eq_true h0
  have e2 : BitVec.sle w 127#32 = true := by
    have : (127#32).toInt = 127 := by decide
    simp only [BitVec.sle, this]
    exact decide_eq_true h1
  simp only [e1, e2]
  decide

/-- A conjunction of set bits is set. -/
theorem fold_and {ι : Type} (s : Finset ι) (f : ι → BitVec 1) (h : ∀ i, f i = 1#1) : s.fold IntOp.andi 1#1 f = 1#1 := by
  classical
  induction s using Finset.induction_on with
  | empty => rfl
  | insert a s ha ih => rw [Finset.fold_insert ha, ih, h]; decide

/-- The stretched text. -/
theorem v23_eq (hA : (args V).InRange) (b : Fin 8) (t : Fin 512) (d : Fin 256) :
    res_main_v23 (F := Ideal) V (ix3 b t d) = (xi (args V) b t d : EReal) := by
  have hr := posW_range ((args V).tl b) ((args V).fl b) (hA.tl_lo b) (hA.tl_hi b) (hA.fl_lo b) t
  have hp := pos_val ((args V).tl b) ((args V).fl b) (hA.tl_lo b) (hA.tl_hi b) (hA.fl_lo b) t
  have hn := toNat_of_nonneg _ hr.1
  pointwise [res_main_v23]
  rw [Ops.gatherRow _ _ b t d (pos ((args V).tl b) ((args V).fl b) t) (by rw [call1_eq V hA]; omega)]
  have hf : ∀ x : S8x512x1.Idx, IntOp.andi (IntOp.cmpi .sge (res_main_call1_v4 (F := Ideal) V x) 0#32)
      (IntOp.cmpi .sle (res_main_call1_v4 (F := Ideal) V x) 127#32) = 1#1 := by
    intro x
    obtain ⟨p, q, r, rfl⟩ : ∃ (p : Fin 8) (q : Fin 512) (r : Fin 1), x = ix3 p q r := by
      refine ⟨x 0, x 1, x 2, ?_⟩
      funext a
      match a with
      | ⟨0, _⟩ => rfl
      | ⟨1, _⟩ => rfl
      | ⟨2, _⟩ => rfl
    rw [call1_eq V hA]
    have h2 := posW_range ((args V).tl p) ((args V).fl p) (hA.tl_lo p) (hA.tl_hi p) (hA.fl_lo p) q
    exact inside _ h2.1 h2.2
  refine (congrArg (fun c => Scalar.select c _ _) (fold_and _ _ hf)).trans ?_
  rfl

/-- The prior's outputs. -/
theorem v32_eq (hA : (args V).InRange) (b : Fin 8) (t : Fin 512) (k : Fin 2) :
    res_main_v32 (F := Ideal) V (ix3 b t k) = (outP (args V) b t k : EReal) := by
  pointwise [res_main_v32]
  simp only [v23_eq V hA]
  rfl

/-- The posterior's outputs. -/
theorem v58_eq (hA : (args V).InRange) (b : Fin 8) (t : Fin 512) (k : Fin 2) :
    res_main_v58 (F := Ideal) V (ix3 b t k) = (outQ (args V) b t k : EReal) := by
  pointwise [res_main_v58]
  simp only [v23_eq V hA]
  rfl

end Cert.Proof.Ref

end
-- ==== Proof.Value.RefOut.lean ====
/- The reference's offsets, its regulated text and its scalar, element by element. -/
module

public import proofs.«01_k».proof.Proof.Value.RefText

@[expose] public section

set_option maxRecDepth 16384

noncomputable section

namespace Cert.Proof.Ref

open Idealize.ShloMosaic Idealize.SL.Sem Idealize.ShloMosaic.StableHlo Cert.ReferenceIdeal Cert.ReferenceIdeal.Gen
  Cert.ReferenceIdeal.Value Cert.Proof.Spec

variable (V : Valuation τ sig (Elt Ideal))

/-- The prior's first column. -/
theorem v33_eq (hA : (args V).InRange) (b : Fin 8) (t : Fin 512) (c : Fin 1) :
    res_main_v33 (F := Ideal) V (ix3 b t c) = (outP (args V) b t 0 : EReal) := by
  obtain rfl : c = 0 := Subsingleton.elim _ _
  pointwise [res_main_v33]
  exact v32_eq V hA b t 0

/-- The posterior's first column. -/
theorem v59_eq (hA : (args V).InRange) (b : Fin 8) (t : Fin 512) (c : Fin 1) :
    res_main_v59 (F := Ideal) V (ix3 b t c) = (outQ (args V) b t 0 : EReal) := by
  obtain rfl : c = 0 := Subsingleton.elim _ _
  pointwise [res_main_v59]
  exact v58_eq V hA b t 0

/-- The padded column moved one frame later. -/
theorem padded (z : FVec Ideal S8x512x1 .f32) (v : FVec Ideal S_ .f32) (hv : ∀ i, v i = (0 : EReal)) (b : Fin 8) (t : Fin 512)
    (c : Fin 1) :
    extractStridedSlice S8x512x1 ![0, 0, 0] (pad S8x513x1 ![0, 1, 0] ![0, 0, 0] ![0, 0, 0] z v
      pads_S8x512x1_S8x513x1_000_100_000 h_S_) slices_S8x513x1_S8x512x1_0_0_0 (ix3 b t c)
      = (if t.val < 1 then 0 else z (ix3 b ⟨t.val - 1, by omega⟩ 0) : EReal) := by
  obtain rfl : c = 0 := Subsingleton.elim _ _
  pointwise []
  rw [hv]
  by_cases h : t.val < 1
  · rw [if_pos h, dif_neg]
    omega
  · rw [if_neg h, dif_pos]
    omega

/-- The host's zero word. -/
theorem zero_word : (id (constant (F := Ideal) S_ .f32 0x00000000#32) ix0 : EReal) = 0 := Ideal.ofBits_zero .f32

/-- The host's zero word, broadcast. -/
theorem zero_word' (i : S_.Idx) :
    (broadcastInDim S_ ![] bcast_S_S_ (constant (F := Ideal) S_ .f32 0x00000000#32) i : EReal) = 0 := Ideal.ofBits_zero .f32

/-- The zero the host converts. -/
theorem zero_conv (i : S_.Idx) : sitofp (F := Ideal) .f32 (constantI S_ 32 0#32) i = (0 : EReal) := by
  show (((0#32 : BitVec 32).toInt : ℝ) : EReal) = 0
  simp

/-- The prior's shifted column. -/
theorem v38_eq (hA : (args V).InRange) (b : Fin 8) (t : Fin 512) (c : Fin 1) :
    res_main_v38 (F := Ideal) V (ix3 b t c) = (shift ((args V).fl b) (fun t => outP (args V) b t 0) t : EReal) := by
  have hp := padded (res_main_v33 (F := Ideal) V) _ zero_conv b t c
  unfold res_main_v38
  generalize extractStridedSlice S8x512x1 ![0, 0, 0] (pad S8x513x1 ![0, 1, 0] ![0, 0, 0] ![0, 0, 0] (res_main_v33 (F := Ideal) V)
    (sitofp (F := Ideal) .f32 (constantI S_ 32 0#32)) pads_S8x512x1_S8x513x1_000_100_000 h_S_) slices_S8x513x1_S8x512x1_0_0_0 = p at hp ⊢
  obtain rfl : c = 0 := Subsingleton.elim _ _
  pointwise []
  rw [v5_apply, select_sge, hp, zero_word]
  simp only [v33_eq V hA]
  rfl

/-- The posterior's shifted column. -/
theorem v64_eq (hA : (args V).InRange) (b : Fin 8) (t : Fin 512) (c : Fin 1) :
    res_main_v64 (F := Ideal) V (ix3 b t c) = (shift ((args V).fl b) (fun t => outQ (args V) b t 0) t : EReal) := by
  have hp := padded (res_main_v59 (F := Ideal) V) _ zero_conv b t c
  unfold res_main_v64
  generalize extractStridedSlice S8x512x1 ![0, 0, 0] (pad S8x513x1 ![0, 1, 0] ![0, 0, 0] ![0, 0, 0] (res_main_v59 (F := Ideal) V)
    (sitofp (F := Ideal) .f32 (constantI S_ 32 0#32)) pads_S8x512x1_S8x513x1_000_100_000 h_S_) slices_S8x513x1_S8x512x1_0_0_0 = p at hp ⊢
  obtain rfl : c = 0 := Subsingleton.elim _ _
  pointwise []
  rw [v5_apply, select_sge, hp, zero_word]
  simp only [v59_eq V hA]
  rfl

/-- The centred column: every frame less the mean over the valid length. -/
def centred (w : FVec Ideal S8x512x1 .f32) (fl : IVec S8 32) : FVec Ideal S8x512x1 .f32 :=
  subf w (broadcastInDim S8x512x1 ![0, 1, 2] bcast_S8x1x1_S8x512x1_0_1_2 (Host.divf (broadcastInDim S8x1x1 ![0, 2]
    bcast_S8x1_S8x1x1_0_2 (Host.reduceAdd w (constant S_ .f32 0x00000000#32) reducesTo_S8x512x1_S8x1_d1 h_S_))
    (sitofp .f32 (broadcastInDim S8x1x1 ![0] bcast_S8_S8x1x1_0 fl))))

/-- The centred column at an element. -/
theorem centred_apply (w : FVec Ideal S8x512x1 .f32) (fl : IVec S8 32) (b : Fin 8) (t : Fin 512) :
    centred w fl (ix3 b t 0) = (w (ix3 b t 0) - Ideal.div (∑ u : Fin 512, w (ix3 b u 0)) (real (fl (ix1 b))) : EReal) := by
  pointwise [centred]
  rfl

/-- The masked running sum of the centred column. -/
theorem cum_eq (w : FVec Ideal S8x512x1 .f32) (b : Fin 8) (t : Fin 512) (c : Fin 1) :
    select (broadcastInDim S8x512x1 ![0, 1] bcast_S8x512_S8x512x1_0_1 (res_main_v5 (F := Ideal) V))
      (broadcastInDim S8x512x1 ![] bcast_S_S8x512x1 (id (constant S_ .f32 0x00000000#32)))
      (Host.reduceWindowAdd ![1, 512, 1] ![1, 1, 1] ![0, 511, 0] ![0, 0, 0]
        (centred w (V (Proc.devRef .tc main_arg3)))
        (broadcastInDim S_ ![] bcast_S_S_ (constant S_ .f32 0x00000000#32))
        reduceWindows_S8x512x1_S8x512x1_w1s1p0_0_w512s1p511_0_w1s1p0_0 h_S_) (ix3 b t c)
      = (cum ((args V).fl b) (fun t => w (ix3 b t 0)) t : EReal) := by
  have hr := Ops.runningSum (centred w (V (Proc.devRef .tc main_arg3)))
    (broadcastInDim S_ ![] bcast_S_S_ (constant S_ .f32 0x00000000#32)) zero_word'
    reduceWindows_S8x512x1_S8x512x1_w1s1p0_0_w512s1p511_0_w1s1p0_0 h_S_ b t c
  generalize Host.reduceWindowAdd (F := Ideal) ![1, 512, 1] ![1, 1, 1] ![0, 511, 0] ![0, 0, 0]
        (centred w (V (Proc.devRef .tc main_arg3)))
        (broadcastInDim S_ ![] bcast_S_S_ (constant S_ .f32 0x00000000#32))
        reduceWindows_S8x512x1_S8x512x1_w1s1p0_0_w512s1p511_0_w1s1p0_0 h_S_ = p at hr ⊢
  obtain rfl : c = 0 := Subsingleton.elim _ _
  pointwise []
  rw [v5_apply, select_sge, hr, zero_word]
  simp only [centred_apply]
  rfl

/-- The posterior's offsets. -/
theorem v74_eq (hA : (args V).InRange) (b : Fin 8) (t : Fin 512) (c : Fin 1) :
    res_main_v74 (F := Ideal) V (ix3 b t c) = (qz (args V) b t : EReal) := by
  refine (cum_eq V (res_main_v64 (F := Ideal) V) b t c).trans ?_
  simp only [v64_eq V hA]
  rfl

/-- The difference of the offsets. -/
theorem v108_eq (hA : (args V).InRange) (b : Fin 8) (t : Fin 512) (c : Fin 1) :
    res_main_v108 (F := Ideal) V (ix3 b t c) = (qz (args V) b t - pz (args V) b t : EReal) := by
  have hp : _ = (pz (args V) b t : EReal) := (cum_eq V (res_main_v38 (F := Ideal) V) b t c).trans (by simp only [v38_eq V hA]; rfl)
  rw [← hp, ← v74_eq V hA b t c]
  rfl

end Cert.Proof.Ref

end
-- ==== Proof.Value.RefResults.lean ====
/- The reference's four results, element by element. -/
module

public import proofs.«01_k».proof.Proof.Value.RefOut

@[expose] public section

set_option maxRecDepth 16384

noncomputable section

namespace Cert.Proof.Ref

open Idealize.ShloMosaic Idealize.SL.Sem Idealize.ShloMosaic.StableHlo Cert.ReferenceIdeal Cert.ReferenceIdeal.Gen
  Cert.ReferenceIdeal.Value Cert.Proof.Spec

variable (V : Valuation τ sig (Elt Ideal))

/-- The scaled distance from a frame's centre. -/
theorem v86_eq (hA : (args V).InRange) (b : Fin 8) (t s : Fin 512) :
    res_main_v86 (F := Ideal) V (ix3 b t s) = (dist (args V) b t s : EReal) := by
  pointwise [res_main_v86, res_main_v75]
  rw [v74_eq V hA, sitofp_frame, sitofp_frame]
  rfl

/-- The masked energy. -/
theorem v91_eq (hA : (args V).InRange) (b : Fin 8) (t s : Fin 512) :
    res_main_v91 (F := Ideal) V (ix3 b t s) = (energy (args V) b t s : EReal) := by
  pointwise [res_main_v91]
  rw [v5_apply, select_sge, v86_eq V hA]
  rfl

/-- The row maximum from the lowest value. -/
def rowTop (e : FVec Ideal S8x512x512 .f32) : FVec Ideal S8x512 .f32 :=
  Host.reduce FloatOps.maximumf e (constant S_ .f32 0xFF800000#32) reducesTo_S8x512x512_S8x512_d2 h_S_

/-- At a row. -/
theorem rowTop_apply (e : FVec Ideal S8x512x512 .f32) (b : Fin 8) (t : Fin 512) :
    rowTop e (ix2 b t) = (Finset.univ.fold max (Ideal.ofBits .f32 0xFF800000#32) fun s : Fin 512 => e (ix3 b t s) : EReal) := by
  pointwise [rowTop]

/-- The lowest value changes no row maximum. -/
theorem lowest_max (f : Fin 512 → EReal) (c : EReal) : max c (Finset.univ.fold max c f) = Finset.univ.fold max c f :=
  max_eq_right ((Finset.le_fold_max c).mpr (Or.inl le_rfl))

/-- The exponentials of the energies less the row maximum. -/
def expRow (e : FVec Ideal S8x512x512 .f32) (m : FVec Ideal S8x512 .f32) : FVec Ideal S8x512x512 .f32 :=
  Host.exp (subf e (broadcastInDim S8x512x512 ![0, 1, 2] bcast_S8x512x1_S8x512x512_0_1_2 (broadcastInDim S8x512x1 ![0, 1] bcast_S8x512_S8x512x1_0_1 (maximumf (broadcastInDim S8x512 ![] bcast_S_S8x512 (constant S_ .f32 0xFF800000#32)) m))))

/-- At an element. -/
theorem expRow_apply (e : FVec Ideal S8x512x512 .f32) (m : FVec Ideal S8x512 .f32) (b : Fin 8) (t s : Fin 512) :
    expRow e m (ix3 b t s) = (Ideal.exp (e (ix3 b t s) - max (Ideal.ofBits .f32 0xFF800000#32) (m (ix2 b t))) : EReal) := by
  pointwise [expRow]

/-- The unnormalized weight. -/
theorem v98_eq (hA : (args V).InRange) (b : Fin 8) (t s : Fin 512) :
    res_main_v98 (F := Ideal) V (ix3 b t s) = (weight (args V) b t s : EReal) := by
  refine (expRow_apply (res_main_v91 (F := Ideal) V) (rowTop (res_main_v91 (F := Ideal) V)) b t s).trans ?_
  rw [rowTop_apply, lowest_max]
  simp only [v91_eq V hA]
  rfl

/-- The masked weights' mean. -/
def outT (k : IVec S8x512 1) (w : FVec Ideal S8x512x512 .f32) (x : FVec Ideal S8x512x256 .f32) : FVec Ideal S8x512x256 .f32 :=
  select (broadcastInDim S8x512x256 ![0, 1, 2] bcast_S8x512x1_S8x512x256_0_1_2 (broadcastInDim S8x512x1 ![0, 1] bcast_S8x512_S8x512x1_0_1 k)) (broadcastInDim S8x512x256 ![] bcast_S_S8x512x256 (id (constant S_ .f32 0x00000000#32))) (Host.dotGeneral dot_S8x512x512_S8x512x256_S8x512x256_2_1_1_2_0_0 none (Host.divf w (broadcastInDim S8x512x512 ![0, 1, 2] bcast_S8x512x1_S8x512x512_0_1_2 (broadcastInDim S8x512x1 ![0, 1] bcast_S8x512_S8x512x1_0_1 (Host.reduceAdd w (constant S_ .f32 0x00000000#32) reducesTo_S8x512x512_S8x512_d2 h_S_)))) x)

/-- The regulated text. -/
theorem out_eq (hA : (args V).InRange) (b : Fin 8) (t : Fin 512) (d : Fin 256) :
    outT (res_main_v5 (F := Ideal) V) (res_main_v98 V) (res_main_v23 V) (ix3 b t d) = (out (args V) b t d : EReal) := by
  pointwise [outT]
  rw [v5_apply, select_sge, zero_word]
  simp only [v98_eq V hA, v23_eq V hA]
  rfl

/-- Two columns side by side. -/
def pack (z : FVec Ideal S8x512x1 .f32) (o : FVec Ideal S8x512x2 .f32) : FVec Ideal S8x512x2 .f32 :=
  concatenate S8x512x2 2 [⟨S8x512x1, z⟩, ⟨S8x512x1, (extractStridedSlice S8x512x1 ![0, 0, 1] o slices_S8x512x2_S8x512x1_0_0_1)⟩] concatenates_S8x512x1_S8x512x1_S8x512x2_d2

/-- The first column of a pair set before the second gives the pair back. -/
theorem pack_apply (z : FVec Ideal S8x512x1 .f32) (o : FVec Ideal S8x512x2 .f32)
    (hz : ∀ (b : Fin 8) (t : Fin 512), z (ix3 b t 0) = o (ix3 b t 0)) (b : Fin 8) (t : Fin 512) (k : Fin 2) :
    pack z o (ix3 b t k) = o (ix3 b t k) := by
  pointwise [pack]
  match k with
  | ⟨0, _⟩ => exact hz b t
  | ⟨1, _⟩ => rfl

/-- The prior's packed outputs. -/
theorem p_eq (hA : (args V).InRange) (b : Fin 8) (t : Fin 512) (k : Fin 2) :
    pack (res_main_v33 (F := Ideal) V) (res_main_v32 V) (ix3 b t k) = (outP (args V) b t k : EReal) :=
  (pack_apply _ _ (fun b t => (v33_eq V hA b t 0).trans (v32_eq V hA b t 0).symm) b t k).trans (v32_eq V hA b t k)

/-- The posterior's packed outputs. -/
theorem q_eq (hA : (args V).InRange) (b : Fin 8) (t : Fin 512) (k : Fin 2) :
    pack (res_main_v59 (F := Ideal) V) (res_main_v58 V) (ix3 b t k) = (outQ (args V) b t k : EReal) :=
  (pack_apply _ _ (fun b t => (v59_eq V hA b t 0).trans (v58_eq V hA b t 0).symm) b t k).trans (v58_eq V hA b t k)

/-- The valid mask as a number. -/
theorem v107_eq (b : Fin 8) (t : Fin 512) :
    res_main_v107 (F := Ideal) V (ix2 b t) = (if valid ((args V).fl b) t then 1 else 0 : EReal) := by
  pointwise [res_main_v107]
  rw [v5_apply]
  show ((((~~~IntOp.cmpi .sge (BitVec.ofNat 32 t.val) ((args V).fl b)) : BitVec 1).toNat : ℝ) : EReal) = _
  by_cases h : valid ((args V).fl b) t
  · have h0 : IntOp.cmpi .sge (BitVec.ofNat 32 t.val) ((args V).fl b) = 0#1 :=
      ValueIdx.eq_zero_of_ne_one fun h' => (sge_iff _ t).mp h' h
    rw [h0, if_pos h]
    simp
  · rw [(sge_iff _ t).mpr h, if_neg h]
    simp

/-- The valid frames of a batch entry are its length. -/
theorem sum_valid (fl : BitVec 32) (h0 : 1 ≤ fl.toInt) (h1 : fl.toInt ≤ 512) :
    ∑ t : Fin 512, (if valid fl t then (1 : EReal) else 0) = real fl := by
  rw [Finset.sum_ite, Finset.sum_const_zero, add_zero, Finset.sum_const]
  have hc : (Finset.univ.filter (fun t : Fin 512 => valid fl t)).card = fl.toInt.toNat := by
    have : Finset.univ.filter (fun t : Fin 512 => valid fl t) = (Finset.univ : Finset (Fin 512)).filter (fun t => t.val < fl.toInt.toNat) := by
      refine Finset.filter_congr fun t _ => ?_
      unfold valid
      omega
    rw [this, Fin.card_filter_val_lt]
    omega
  rw [hc, real]
  obtain ⟨n, hn⟩ : ∃ n : ℕ, fl.toInt = (n : ℤ) := ⟨fl.toInt.toNat, by omega⟩
  rw [hn]
  simp

/-- The masked squares' sum over the mask's sum. -/
def funcT (d : FVec Ideal S8x512x1 .f32) (v : FVec Ideal S8x512 .f32) : FVec Ideal S_ .f32 :=
  Host.divf (Host.reduceAdd (mulf (shapeCast _ (mulf d d) shapeCasts_S8x512x1_S8x512) v) (constant S_ .f32 0x00000000#32) reducesTo_S8x512_S_d0_1 h_S_) (Host.reduceAdd v (constant S_ .f32 0x00000000#32) reducesTo_S8x512_S_d0_1 h_S_)

/-- The scalar. -/
theorem func_eq (hA : (args V).InRange) :
    funcT (res_main_v108 (F := Ideal) V) (res_main_v107 V) ix0 = (func (args V) : EReal) := by
  pointwise [funcT]
  simp only [v108_eq V hA, v107_eq, sum_valid _ (hA.fl_lo _) (hA.fl_hi _)]
  rfl

end Cert.Proof.Ref

end
-- ==== Proof.Value.Body.lean ====
/- What the kernel's body computes at one grid point, element by element: the blocks are one batch entry's part of the
   arguments, and each stored vector is the specification's value for that entry. -/
module

public import proofs.«01_k».proof.Proof.Gen.KernelIdeal.Skeleton
public import proofs.«01_k».proof.Proof.Value.Words

@[expose] public section

set_option maxRecDepth 16384

noncomputable section

namespace Cert.Proof.Body

open Idealize.ShloMosaic Idealize.SL.Sem Cert.KernelIdeal Cert.KernelIdeal.Gen Cert.Proof.Spec

/-- The blocks of one grid point hold batch entry `b`'s part of the arguments. -/
structure Holds (A : Args) (b : Fin 8) (x : Vec Ideal S1x128x256 .f32) (y : Vec Ideal S1x512x80 .f32)
    (w1 : Vec Ideal S256x256 .f32) (b1 : Vec Ideal S1x256 .f32) (w2 : Vec Ideal S256x2 .f32) (b2 : Vec Ideal S1x2 .f32)
    (w1x : Vec Ideal S256x256 .f32) (w1y : Vec Ideal S80x256 .f32) (b1q : Vec Ideal S1x256 .f32)
    (w2q : Vec Ideal S256x2 .f32) (b2q : Vec Ideal S1x2 .f32) : Prop where
  x : ∀ i d, x (ix3 0 i d) = A.x b i d
  y : ∀ t d, y (ix3 0 t d) = A.y b t d
  w1 : ∀ d j, w1 (ix2 d j) = A.w1 d j
  b1 : ∀ j, b1 (ix2 0 j) = A.b1 j
  w2 : ∀ j k, w2 (ix2 j k) = A.w2 j k
  b2 : ∀ k, b2 (ix2 0 k) = A.b2 k
  w1x : ∀ (d : Fin 256) j, w1x (ix2 d j) = A.w1q ⟨d.val, by omega⟩ j
  w1y : ∀ (d : Fin 80) j, w1y (ix2 d j) = A.w1q ⟨256 + d.val, by omega⟩ j
  b1q : ∀ j, b1q (ix2 0 j) = A.b1q j
  w2q : ∀ j k, w2q (ix2 j k) = A.w2q j k
  b2q : ∀ k, b2q (ix2 0 k) = A.b2q k

variable {A : Args} (hA : A.InRange) {b : Fin 8} {x : Vec Ideal S1x128x256 .f32} {y : Vec Ideal S1x512x80 .f32}
    {w1 : Vec Ideal S256x256 .f32} {b1 : Vec Ideal S1x256 .f32} {w2 : Vec Ideal S256x2 .f32} {b2 : Vec Ideal S1x2 .f32}
    {w1x : Vec Ideal S256x256 .f32} {w1y : Vec Ideal S80x256 .f32} {b1q : Vec Ideal S1x256 .f32}
    {w2q : Vec Ideal S256x2 .f32} {b2q : Vec Ideal S1x2 .f32}
    (h : Holds A b x y w1 b1 w2 b2 w1x w1y b1q w2q b2q)

include hA h in
/-- The one-hot product is the stretched text. -/
theorem pay5_eq (t : Fin 512) (d : Fin 256) :
    k0_pay5 (F := Ideal) (A.tl b) (A.fl b) x (ix2 t d) = xi A b t d := by
  pointwise [k0_pay5, k0_pay3, k0_pay2]
  rw [sitofp_frame]
  refine (onehot _ (pos (A.tl b) (A.fl b) t) ?_ fun i => x (ix3 0 i d)).trans (h.x _ d)
  exact (pos_val (A.tl b) (A.fl b) (hA.tl_lo b) (hA.tl_hi b) (hA.fl_lo b) t).symm

include hA h in
/-- The prior's outputs. -/
theorem pay6_eq (t : Fin 512) (k : Fin 2) :
    k0_pay6 (F := Ideal) (A.tl b) (A.fl b) x w1 b1 w2 b2 (ix2 t k) = outP A b t k := by
  pointwise [k0_pay6]
  simp only [pay5_eq hA h, h.w1, h.b1, h.w2, h.b2]
  rfl

include hA h in
/-- The posterior's outputs. -/
theorem pay8_eq (t : Fin 512) (k : Fin 2) :
    k0_pay8 (F := Ideal) (k0_pay5 (F := Ideal) (A.tl b) (A.fl b) x) w1x y w1y b1q w2q b2q (ix2 t k) = outQ A b t k := by
  pointwise [k0_pay8]
  simp only [pay5_eq hA h, h.w1x, h.w1y, h.y, h.b1q, h.w2q, h.b2q]
  rfl

/-- The valid mask's bit. -/
theorem pay4_apply (fl : BitVec 32) (t : Fin 512) (c : Fin 1) :
    k0_pay4 (F := Ideal) fl (ix2 t c) = IntOp.cmpi .slt (BitVec.ofNat 32 t.val) fl := by
  pointwise [k0_pay4]

/-- The shifted first column. -/
theorem pay11_eq (fl : BitVec 32) (z : FVec Ideal S512x2 .f32) (t : Fin 512) (c : Fin 1) :
    k0_pay11 (F := Ideal) (k0_pay4 (F := Ideal) fl) z (ix2 t c) = shift fl (fun t => z (ix2 t 0)) t := by
  obtain rfl : c = 0 := Subsingleton.elim _ _
  pointwise [k0_pay11]
  rw [pay4_apply, select_slt]
  rfl

/-- The triangle. -/
theorem pay10_apply (t s : Fin 512) : k0_pay10 (F := Ideal) (ix2 t s) = if s ≤ t then (1 : EReal) else 0 := by
  pointwise [k0_pay10]
  exact tri t s

/-- The shifted column recast with a leading unit axis. -/
theorem pay12_apply (v9 : IVec S512x1 1) (z : FVec Ideal S512x2 .f32) (a : Fin 1) (t : Fin 512) (c : Fin 1) :
    k0_pay12 (F := Ideal) v9 z (ix3 a t c) = k0_pay11 (F := Ideal) v9 z (ix2 t c) := by
  obtain rfl : c = 0 := Subsingleton.elim _ _
  pointwise [k0_pay12]

/-- The centred prefix sums of a shifted column `w`, as the kernel forms them. -/
def cumK (v5 : EReal) (v9 : IVec S512x1 1) (w : FVec Ideal S512x1 .f32) (v69 : FVec Ideal S512x512 .f32) :
    FVec Ideal S512x1 .f32 :=
  select v9
    (matmul dot_S512x512_S512x1_S512x1_1_0_0_1_n_n (some .fp32) v69
      (subf w (broadcast S512x1 (Scalar.divf (extractAt ![0, 0, 0]
        (shapeCast S1x1x1 (multiReduction .add [1, 2] S1 (shapeCast S1x512x1 w shapeCasts_S512x1_S1x512x1) 0x00000000#32
          reduces_S1x512x1_S1 (.inl rfl) rfl) shapeCasts_S1_S1x1x1) inpos_S1x1x1_p0_0_0) v5)))
      (constant S512x1 .f32 0x00000000#32))
    (broadcast S512x1 (Scalar.ofBits .f32 0x00000000#32))

/-- The posterior's offsets in the kernel are that of the shifted first column. -/
theorem pay13_cumK (v5 : EReal) (v9 : IVec S512x1 1) (v61 : FVec Ideal S512x2 .f32) (v69 : FVec Ideal S512x512 .f32) :
    k0_pay13 (F := Ideal) v5 v9 v61 v69 = cumK v5 v9 (k0_pay11 (F := Ideal) v9 v61) v69 := rfl

/-- And they are the specification's. -/
theorem cumK_eq (fl : BitVec 32) (w : FVec Ideal S512x1 .f32) (t : Fin 512) (c : Fin 1) :
    cumK (real fl) (k0_pay4 (F := Ideal) fl) w (k0_pay10 (F := Ideal)) (ix2 t c)
      = cum fl (fun t => w (ix2 t 0)) t := by
  obtain rfl : c = 0 := Subsingleton.elim _ _
  pointwise [cumK]
  rw [pay4_apply, select_slt]
  simp only [pay10_apply, tri_mul, Fin.sum_univ_one]
  rfl

include hA h in
/-- The posterior's offsets. -/
theorem pay13_eq (t : Fin 512) (c : Fin 1) :
    k0_pay13 (F := Ideal) (k0_pay2 (F := Ideal) (A.fl b)) (k0_pay4 (F := Ideal) (A.fl b))
      (k0_pay8 (F := Ideal) (k0_pay5 (F := Ideal) (A.tl b) (A.fl b) x) w1x y w1y b1q w2q b2q) (k0_pay10 (F := Ideal)) (ix2 t c)
      = qz A b t := by
  rw [pay13_cumK]
  refine (cumK_eq (A.fl b) _ t c).trans ?_
  simp only [pay11_eq, pay8_eq hA h]
  rfl

include hA h in
/-- The entry's part of the squared distance, on every lane. -/
theorem pay14_eq (l : Fin 128) :
    k0_pay14 (F := Ideal) (k0_pay2 (F := Ideal) (A.fl b)) (k0_pay4 (F := Ideal) (A.fl b))
      (k0_pay8 (F := Ideal) (k0_pay5 (F := Ideal) (A.tl b) (A.fl b) x) w1x y w1y b1q w2q b2q) (k0_pay10 (F := Ideal))
      (k0_pay11 (F := Ideal) (k0_pay4 (F := Ideal) (A.fl b)) (k0_pay6 (F := Ideal) (A.tl b) (A.fl b) x w1 b1 w2 b2))
      (k0_pay12 (F := Ideal) (k0_pay4 (F := Ideal) (A.fl b)) (k0_pay6 (F := Ideal) (A.tl b) (A.fl b) x w1 b1 w2 b2))
      (ix3 0 0 l) = num A b := by
  pointwise [k0_pay14]
  simp only [pay13_eq hA h, pay12_apply, pay11_eq, pay6_eq hA h, pay10_apply, tri_mul, Fin.sum_univ_one, pay4_apply,
    select_slt, sitofp_bit, slt_iff]
  rfl

include hA h in
/-- The unmasked energy. -/
theorem pay15_eq (v66 : IVec S512x512 32) (hv : ∀ t s : Fin 512, v66 (ix2 t s) = BitVec.ofNat 32 s.val) (t s : Fin 512) :
    k0_pay15 (F := Ideal) (k0_pay2 (F := Ideal) (A.fl b)) (k0_pay3 (F := Ideal)) (k0_pay4 (F := Ideal) (A.fl b))
      (k0_pay8 (F := Ideal) (k0_pay5 (F := Ideal) (A.tl b) (A.fl b) x) w1x y w1y b1q w2q b2q) v66
      (k0_pay10 (F := Ideal)) (ix2 t s)
      = Ideal.ofBits .f32 0xBF000000#32 * (dist A b t s * dist A b t s) := by
  have h3 : k0_pay3 (F := Ideal) (ix2 t 0) = fr t := by
    pointwise [k0_pay3]
    exact sitofp_frame t
  pointwise [k0_pay15]
  rw [pay13_eq hA h, h3, hv, sitofp_frame]
  rfl

include hA h in
/-- The regulated text. -/
theorem pay1_eq (v66 : IVec S512x512 32) (hv : ∀ t s : Fin 512, v66 (ix2 t s) = BitVec.ofNat 32 s.val)
    (t : Fin 512) (d : Fin 256) :
    k0_pay1 (F := Ideal) (k0_pay4 (F := Ideal) (A.fl b)) (k0_pay5 (F := Ideal) (A.tl b) (A.fl b) x) v66
      (k0_pay15 (F := Ideal) (k0_pay2 (F := Ideal) (A.fl b)) (k0_pay3 (F := Ideal)) (k0_pay4 (F := Ideal) (A.fl b))
        (k0_pay8 (F := Ideal) (k0_pay5 (F := Ideal) (A.tl b) (A.fl b) x) w1x y w1y b1q w2q b2q) v66
        (k0_pay10 (F := Ideal)))
      (k0_pay16 (F := Ideal) (A.fl b)) (ix3 0 t d) = out A b t d := by
  have h16 : ∀ t s : Fin 512, k0_pay16 (F := Ideal) (A.fl b) (ix2 t s) = A.fl b := fun t s => rfl
  pointwise [k0_pay1]
  simp only [pay15_eq hA h v66 hv, hv, h16, select_sge, pay4_apply, select_slt, pay5_eq hA h]
  rfl

end Cert.Proof.Body

end
-- ==== Proof.Value.Blocks.lean ====
/- What the kernel's run leaves in its output blocks at one grid point: the stored payloads of the loaded blocks. -/
module

public import proofs.«01_k».proof.Proof.Gen.KernelIdeal.Frame
public import proofs.«01_k».proof.Proof.Value.Body

@[expose] public section

set_option maxRecDepth 16384

noncomputable section

namespace Cert.Proof.Blocks

open Idealize.ShloMosaic Idealize.ShloMosaic.TcCoe Idealize.SL.Sem Cert.KernelIdeal Cert.KernelIdeal.Gen

/-- Offsets all zero. -/
theorem hz3 : (![0, 0, 0] : Fin 3 → Nat) = fun _ => 0 := funext fun a => by fin_cases a <;> rfl

/-- Offsets all zero. -/
theorem hz2 : (![0, 0] : Fin 2 → Nat) = fun _ => 0 := funext fun a => by fin_cases a <;> rfl

variable (c : Dev nD) (i : grid0.Coords) (arg3 : Memref sig .tc .vmem S1x128x256 .f32) (harg3 : arg3.IsWhole) (arg4
    : Memref sig .tc .vmem S1x512x80 .f32) (harg4 : arg4.IsWhole) (arg5 : Memref sig .tc .vmem S256x256 .f32) (harg5 :
    arg5.IsWhole) (arg6 : Memref sig .tc .vmem S1x256 .f32) (harg6 : arg6.IsWhole) (arg7 : Memref sig .tc .vmem S256x2
    .f32) (harg7 : arg7.IsWhole) (arg8 : Memref sig .tc .vmem S1x2 .f32) (harg8 : arg8.IsWhole) (arg9 : Memref sig .tc
    .vmem S256x256 .f32) (harg9 : arg9.IsWhole) (arg10 : Memref sig .tc .vmem S80x256 .f32) (harg10 : arg10.IsWhole)
    (arg11 : Memref sig .tc .vmem S1x256 .f32) (harg11 : arg11.IsWhole) (arg12 : Memref sig .tc .vmem S256x2 .f32)
    (harg12 : arg12.IsWhole) (arg13 : Memref sig .tc .vmem S1x2 .f32) (harg13 : arg13.IsWhole) (arg14 : Memref sig .tc
    .vmem S1x512x256 .f32) (harg14 : arg14.IsWhole) (arg15 : Memref sig .tc .vmem S1x512x2 .f32) (harg15 :
    arg15.IsWhole) (arg16 : Memref sig .tc .vmem S1x512x2 .f32) (harg16 : arg16.IsWhole) (arg17 : Memref sig .tc .vmem
    S1x1x128 .f32) (harg17 : arg17.IsWhole)
    (x0 : Vec Ideal S1x128x256 .f32) (x1 : Vec Ideal S1x512x80 .f32) (x2 : Vec Ideal S256x256 .f32) (x3 : Vec Ideal
    S1x256 .f32) (x4 : Vec Ideal S256x2 .f32) (x5 : Vec Ideal S1x2 .f32) (x6 : Vec Ideal S256x256 .f32) (x7 : Vec
    Ideal S80x256 .f32) (x8 : Vec Ideal S1x256 .f32) (x9 : Vec Ideal S256x2 .f32) (x10 : Vec Ideal S1x2 .f32) (xt0 :
    TbBuf0 (F := Ideal) c tbM0_0) (xt1 : TbBuf0 (F := Ideal) c tbM0_1)

/-- The first table's entry the body reads: the grid coordinate's. -/
theorem entry (i : grid0.Coords) (b : Fin 8) (hi : (i 0).val = b.val) (x : (⟨S8, .i32⟩ : BufTy).Contents (Elt Ideal)) (v : BitVec 32)
    (hv : x (ix1 b) = v) (h1 h2) :
    View.ld (View.read (Elt Ideal) (View.whole main_arg2) x)
      (Rect.unit ![BitVec.toNat (Scalar.indexCast (BitVec.ofNat 32 (i 0).val))] ![1] h1) (Shape.Idx.first h2) = v := by
  subst hv
  refine congrArg x (funext fun a => Fin.ext ?_)
  obtain rfl : a = (0 : Fin 1) := Subsingleton.elim (α := Fin 1) _ _
  have e : BitVec.toNat (Scalar.indexCast (BitVec.ofNat 32 (i 0).val)) = b.val := by
    show (BitVec.ofNat 32 (i 0).val).toNat = b.val
    rw [hi, BitVec.toNat_ofNat]
    omega
  show BitVec.toNat (Scalar.indexCast (BitVec.ofNat 32 (i 0).val)) + 1 * 0 = b.val
  omega

/-- The second table's. -/
theorem entry' (i : grid0.Coords) (b : Fin 8) (hi : (i 0).val = b.val) (x : (⟨S8, .i32⟩ : BufTy).Contents (Elt Ideal)) (v : BitVec 32)
    (hv : x (ix1 b) = v) (h1 h2) :
    View.ld (View.read (Elt Ideal) (View.whole main_arg3) x)
      (Rect.unit ![BitVec.toNat (Scalar.indexCast (BitVec.ofNat 32 (i 0).val))] ![1] h1) (Shape.Idx.first h2) = v :=
  entry i b hi x v hv h1 h2

variable {A : Spec.Args} (hA : A.InRange) {b : Fin 8} (hi : (i 0).val = b.val)
  (h : Body.Holds A b x0 x1 x2 x3 x4 x5 x6 x7 x8 x9 x10)
  (ht : ∀ b : Fin 8, (xt0 : (⟨S8, .i32⟩ : BufTy).Contents (Elt Ideal)) (ix1 b) = A.tl b)
  (hf : ∀ b : Fin 8, (xt1 : (⟨S8, .i32⟩ : BufTy).Contents (Elt Ideal)) (ix1 b) = A.fl b)
include hA hi h ht hf

/-- The four blocks after the body: the regulated text's, the prior's, the posterior's, and the distance's in every
    lane. -/
theorem outs :
    (∀ (t : Fin 512) (d : Fin 256), out0_A_11 (F := Ideal) c i arg3 harg3 arg4 harg4 arg5 harg5 arg6 harg6 arg7 harg7 arg8 harg8 arg9 harg9 arg10 harg10 arg11 harg11
        arg12 harg12 arg13 harg13 arg14 harg14 arg15 harg15 arg16 harg16 arg17 harg17 x0 x1 x2 x3 x4 x5 x6 x7 x8 x9
        x10 xt0 xt1
        (ix3 0 t d) = (Spec.out A b t d : EReal))
    ∧ (∀ (t : Fin 512) (k : Fin 2), out0_A_12 (F := Ideal) c i arg3 harg3 arg4 harg4 arg5 harg5 arg6 harg6 arg7 harg7 arg8 harg8 arg9 harg9 arg10 harg10 arg11 harg11
        arg12 harg12 arg13 harg13 arg14 harg14 arg15 harg15 arg16 harg16 arg17 harg17 x0 x1 x2 x3 x4 x5 x6 x7 x8 x9
        x10 xt0 xt1
        (ix3 0 t k) = (Spec.outP A b t k : EReal))
    ∧ (∀ (t : Fin 512) (k : Fin 2), out0_A_13 (F := Ideal) c i arg3 harg3 arg4 harg4 arg5 harg5 arg6 harg6 arg7 harg7 arg8 harg8 arg9 harg9 arg10 harg10 arg11 harg11
        arg12 harg12 arg13 harg13 arg14 harg14 arg15 harg15 arg16 harg16 arg17 harg17 x0 x1 x2 x3 x4 x5 x6 x7 x8 x9
        x10 xt0 xt1
        (ix3 0 t k) = (Spec.outQ A b t k : EReal))
    ∧ (∀ l : Fin 128, out0_A_14 (F := Ideal) c i arg3 harg3 arg4 harg4 arg5 harg5 arg6 harg6 arg7 harg7 arg8 harg8 arg9 harg9 arg10 harg10 arg11 harg11
        arg12 harg12 arg13 harg13 arg14 harg14 arg15 harg15 arg16 harg16 arg17 harg17 x0 x1 x2 x3 x4 x5 x6 x7 x8 x9
        x10 xt0 xt1
        (ix3 0 0 l) = (Spec.num A b : EReal)) := by
  have two : ∀ f : BitVec 32 → BitVec 32 → EReal, f _ _ = f (A.tl b) (A.fl b) := fun f =>
    congrArg₂ f (entry i b hi xt0 (A.tl b) (ht b) (k0_off1_inb i) Nat.one_pos)
      (entry' i b hi xt1 (A.fl b) (hf b) (k0_off1_inb i) Nat.one_pos)
  refine ⟨fun t d => ?_, fun t k => ?_, fun t k => ?_, fun l => ?_⟩
  on_goal 1 =>
    unfold out0_A_11
    rw [View.read_writes_eq_canon _ _ _ (cover0_A_11 c i arg3 harg3 arg4 harg4 arg5 harg5 arg6 harg6 arg7 harg7 arg8 harg8 arg9 harg9 arg10 harg10 arg11 harg11 arg12
      harg12 arg13 harg13 arg14 harg14 arg15 harg15 arg16 harg16 arg17 harg17 x0 x1 x2 x3 x4 x5 x6 x7 x8 x9 x10 xt0
      xt1)]
  on_goal 2 =>
    unfold out0_A_12
    rw [View.read_writes_eq_canon _ _ _ (cover0_A_12 c i arg3 harg3 arg4 harg4 arg5 harg5 arg6 harg6 arg7 harg7 arg8 harg8 arg9 harg9 arg10 harg10 arg11 harg11 arg12
      harg12 arg13 harg13 arg14 harg14 arg15 harg15 arg16 harg16 arg17 harg17 x0 x1 x2 x3 x4 x5 x6 x7 x8 x9 x10 xt0
      xt1)]
  on_goal 3 =>
    unfold out0_A_13
    rw [View.read_writes_eq_canon _ _ _ (cover0_A_13 c i arg3 harg3 arg4 harg4 arg5 harg5 arg6 harg6 arg7 harg7 arg8 harg8 arg9 harg9 arg10 harg10 arg11 harg11 arg12
      harg12 arg13 harg13 arg14 harg14 arg15 harg15 arg16 harg16 arg17 harg17 x0 x1 x2 x3 x4 x5 x6 x7 x8 x9 x10 xt0
      xt1)]
  on_goal 4 =>
    unfold out0_A_14
    rw [View.read_writes_eq_canon _ _ _ (cover0_A_14 c i arg3 harg3 arg4 harg4 arg5 harg5 arg6 harg6 arg7 harg7 arg8 harg8 arg9 harg9 arg10 harg10 arg11 harg11 arg12
      harg12 arg13 harg13 arg14 harg14 arg15 harg15 arg16 harg16 arg17 harg17 x0 x1 x2 x3 x4 x5 x6 x7 x8 x9 x10 xt0
      xt1)]
  all_goals
    unfold kernelRun0_A
    dsimp only
    sl_unfold_words
    rw [View.canon_unit_zero hz3]
    simp only [View.readAt_eq_ld, harg3.read_unread, harg4.read_unread, harg5.read_unread, harg6.read_unread,
      harg7.read_unread, harg8.read_unread, harg9.read_unread, harg10.read_unread, harg11.read_unread,
      harg12.read_unread, harg13.read_unread, View.ld_unit_zero (S := S1x128x256) hz3, View.ld_unit_zero (S :=
      S1x512x80) hz3, View.ld_unit_zero (S := S256x256) hz2, View.ld_unit_zero (S := S1x256) hz2, View.ld_unit_zero (S
      := S256x2) hz2, View.ld_unit_zero (S := S1x2) hz2, View.ld_unit_zero (S := S80x256) hz2]
  · refine (two fun v1 v3 => (k0_pay1 (F := Ideal) (k0_pay4 (F := Ideal) v3) (k0_pay5 (F := Ideal) v1 v3 x0) (iota
      .tc S512x512 32 [1] iota_S512x512_d1_w32) (k0_pay15 (F := Ideal) (k0_pay2 (F := Ideal) v3) (k0_pay3 (F :=
      Ideal)) (k0_pay4 (F := Ideal) v3) (k0_pay8 (F := Ideal) (k0_pay5 (F := Ideal) v1 v3 x0) x6 x1 x7 x8 x9 x10)
      (iota .tc S512x512 32 [1] iota_S512x512_d1_w32) (k0_pay10 (F := Ideal))) (k0_pay16 (F := Ideal) v3) (ix3 0 t d)
      : EReal)).trans ?_
    exact Body.pay1_eq hA h _ (fun t s => by pointwise []) t d
  · refine (two fun v1 v3 => (k0_pay7 (F := Ideal) (k0_pay6 (F := Ideal) v1 v3 x0 x2 x3 x4 x5) (ix3 0 t k) :
      EReal)).trans ?_
    pointwise [k0_pay7]
    exact Body.pay6_eq hA h t k
  · refine (two fun v1 v3 => (k0_pay9 (F := Ideal) (k0_pay5 (F := Ideal) v1 v3 x0) x6 x1 x7 x8 x9 x10 (ix3 0 t k) :
      EReal)).trans ?_
    pointwise [k0_pay9]
    exact Body.pay8_eq hA h t k
  · refine (two fun v1 v3 => (k0_pay14 (F := Ideal) (k0_pay2 (F := Ideal) v3) (k0_pay4 (F := Ideal) v3) (k0_pay8 (F
      := Ideal) (k0_pay5 (F := Ideal) v1 v3 x0) x6 x1 x7 x8 x9 x10) (k0_pay10 (F := Ideal)) (k0_pay11 (F := Ideal)
      (k0_pay4 (F := Ideal) v3) (k0_pay6 (F := Ideal) v1 v3 x0 x2 x3 x4 x5)) (k0_pay12 (F := Ideal) (k0_pay4 (F :=
      Ideal) v3) (k0_pay6 (F := Ideal) v1 v3 x0 x2 x3 x4 x5)) (ix3 0 0 l) : EReal)).trans ?_
    exact Body.pay14_eq hA h l

end Cert.Proof.Blocks

end
-- ==== Proof.Value.Inputs.lean ====
/- What the kernel's region is given: the arrays at its entry read by coordinates, and each grid point's blocks as the
   corresponding batch entry's part of the arguments. -/
module

public import proofs.«01_k».proof.Proof.Value.Blocks
public import Idealize.ShloMosaic.Lib.StableHlo.ReadAt

@[expose] public section

set_option maxRecDepth 16384

noncomputable section

namespace Cert.Proof.Inputs

open Idealize.ShloMosaic Idealize.ShloMosaic.TcCoe Idealize.SL.Sem Cert.KernelIdeal Cert.KernelIdeal.Gen

variable (m : (ℓ : Loc nD τ sig) → Buf (Elt Ideal) ℓ)

/-- The kernel's arguments by coordinates. -/
def args (c : Dev nD) : Spec.Args where
  x b i d := (m ((c : Thread nD τ).loc main_arg0) : FVec Ideal S8x128x256 .f32) (ix3 b i d)
  y b t d := (m ((c : Thread nD τ).loc main_arg1) : FVec Ideal S8x512x80 .f32) (ix3 b t d)
  tl b := (m ((c : Thread nD τ).loc main_arg2) : IVec S8 32) (ix1 b)
  fl b := (m ((c : Thread nD τ).loc main_arg3) : IVec S8 32) (ix1 b)
  w1 d j := (m ((c : Thread nD τ).loc main_arg4) : FVec Ideal S256x256 .f32) (ix2 d j)
  b1 j := (m ((c : Thread nD τ).loc main_arg5) : FVec Ideal S256 .f32) (ix1 j)
  w2 j k := (m ((c : Thread nD τ).loc main_arg6) : FVec Ideal S256x2 .f32) (ix2 j k)
  b2 k := (m ((c : Thread nD τ).loc main_arg7) : FVec Ideal S2 .f32) (ix1 k)
  w1q d j := (m ((c : Thread nD τ).loc main_arg8) : FVec Ideal S336x256 .f32) (ix2 d j)
  b1q j := (m ((c : Thread nD τ).loc main_arg9) : FVec Ideal S256 .f32) (ix1 j)
  w2q j k := (m ((c : Thread nD τ).loc main_arg10) : FVec Ideal S256x2 .f32) (ix2 j k)
  b2q k := (m ((c : Thread nD τ).loc main_arg11) : FVec Ideal S2 .f32) (ix1 k)

variable (c : Dev nD)

/-- The prior's first bias, as a row. -/
theorem entry_v2 (j : Fin 256) : (V m c main_v2 : FVec Ideal S1x256 .f32) (ix2 0 j) = ((args m c).b1 j : EReal) := by
  unfold V V0 args; after_reads_at

/-- The posterior's first bias, as a row. -/
theorem entry_v3 (j : Fin 256) : (V m c main_v3 : FVec Ideal S1x256 .f32) (ix2 0 j) = ((args m c).b1q j : EReal) := by
  unfold V V0 args; after_reads_at

/-- The prior's second bias, as a row. -/
theorem entry_v4 (j : Fin 2) : (V m c main_v4 : FVec Ideal S1x2 .f32) (ix2 0 j) = ((args m c).b2 j : EReal) := by
  unfold V V0 args; after_reads_at

/-- The posterior's second bias, as a row. -/
theorem entry_v5 (j : Fin 2) : (V m c main_v5 : FVec Ideal S1x2 .f32) (ix2 0 j) = ((args m c).b2q j : EReal) := by
  unfold V V0 args; after_reads_at

/-- The posterior's weight rows of the text. -/
theorem entry_v0 (d : Fin 256) (j : Fin 256) :
    (V m c main_v0 : FVec Ideal S256x256 .f32) (ix2 d j) = ((args m c).w1q ⟨d.val, by omega⟩ j : EReal) := by
  unfold V V0 args; after_reads_at

/-- The posterior's weight rows of the features. -/
theorem entry_v1 (d : Fin 80) (j : Fin 256) :
    (V m c main_v1 : FVec Ideal S80x256 .f32) (ix2 d j) = ((args m c).w1q ⟨256 + d.val, by omega⟩ j : EReal) := by
  unfold V V0 args; after_reads_at

variable (hO : Ok m)

/-- A grid point's one coordinate is its number. -/
theorem coord (t : Fin grid0.N) : (grid0.coords t 0).val = t.val := by
  rcases fin_N0 t with rfl | rfl | rfl | rfl | rfl | rfl | rfl | rfl <;> decide

/-- The grid point's batch entry. -/
def entryOf (t : Fin grid0.N) : Fin 8 := ⟨t.val, by have := t.isLt; have := N_0; omega⟩

/-- The block index of a window over the batch, at a grid point: the batch entry's number. -/
theorem index (t : Fin grid0.N) : cc0_transform_0 (grid0.coords t) 0 = t.val := by
  rcases fin_N0 t with rfl | rfl | rfl | rfl | rfl | rfl | rfl | rfl <;> decide

/-- So a block of one batch entry starts at that entry. -/
theorem start (t : Fin grid0.N) (o : Fin 1) : cc0_transform_0 (grid0.coords t) 0 * 1 + 1 * o.val = (entryOf t).val := by
  have := index t
  show _ = t.val
  omega

/-- An array of two axes at an index given by its coordinates, as a block covering both axes states them. -/
theorem at2 {n0 n1 : ℕ} {α : Type} (f : (⟨2, ![n0, n1]⟩ : Shape).Idx → α) (e : (⟨2, ![n0, n1]⟩ : Shape).Idx)
    (p : Fin n0) (q : Fin n1) (h0 : (e 0).val = 0 * n0 + 1 * p.val) (h1 : (e 1).val = 0 * n1 + 1 * q.val) :
    f e = f (ix2 p q) :=
  congrArg f (funext fun a => Fin.ext (by
    match a with
    | ⟨0, _⟩ => show (e 0).val = p.val; omega
    | ⟨1, _⟩ => show (e 1).val = q.val; omega))

/-- An array of three axes likewise, for a block covering the last two axes. -/
theorem at3 {n0 n1 n2 : ℕ} {α : Type} (f : (⟨3, ![n0, n1, n2]⟩ : Shape).Idx → α) (e : (⟨3, ![n0, n1, n2]⟩ : Shape).Idx)
    (b : Fin n0) (p : Fin n1) (q : Fin n2) (h0 : (e 0).val = b.val) (h1 : (e 1).val = 0 * n1 + 1 * p.val)
    (h2 : (e 2).val = 0 * n2 + 1 * q.val) : f e = f (ix3 b p q) :=
  congrArg f (funext fun a => Fin.ext (by
    match a with
    | ⟨0, _⟩ => exact h0
    | ⟨1, _⟩ => show (e 1).val = p.val; omega
    | ⟨2, _⟩ => show (e 2).val = q.val; omega))

/-- A grid point's blocks hold its batch entry's part of the arguments. -/
theorem holds (t : Fin grid0.N) : Body.Holds (args m c) (entryOf t) (iblk m hO c 0 t) (iblk m hO c 1 t) (iblk m hO c 2 t)
    (iblk m hO c 3 t) (iblk m hO c 4 t) (iblk m hO c 5 t) (iblk m hO c 6 t) (iblk m hO c 7 t) (iblk m hO c 8 t)
    (iblk m hO c 9 t) (iblk m hO c 10 t) where
  x i d := (View.read_apply _ _).trans
    ((at3 (V m c main_arg0) _ (entryOf t) i d (start t 0) rfl rfl).trans (congrFun (V_main_arg0 m c) _))
  y i d := (View.read_apply _ _).trans
    ((at3 (V m c main_arg1) _ (entryOf t) i d (start t 0) rfl rfl).trans (congrFun (V_main_arg1 m c) _))
  w1 d j := (View.read_apply _ _).trans
    ((at2 (V m c main_arg4) _ d j rfl rfl).trans (congrFun (V_main_arg4 m c) _))
  b1 j := (View.read_apply _ _).trans
    ((at2 (V m c main_v2) _ 0 j rfl rfl).trans (entry_v2 m c j))
  w2 j k := (View.read_apply _ _).trans
    ((at2 (V m c main_arg6) _ j k rfl rfl).trans (congrFun (V_main_arg6 m c) _))
  b2 k := (View.read_apply _ _).trans
    ((at2 (V m c main_v4) _ 0 k rfl rfl).trans (entry_v4 m c k))
  w1x d j := (View.read_apply _ _).trans
    ((at2 (V m c main_v0) _ d j rfl rfl).trans (entry_v0 m c d j))
  w1y d j := (View.read_apply _ _).trans
    ((at2 (V m c main_v1) _ d j rfl rfl).trans (entry_v1 m c d j))
  b1q j := (View.read_apply _ _).trans
    ((at2 (V m c main_v3) _ 0 j rfl rfl).trans (entry_v3 m c j))
  w2q j k := (View.read_apply _ _).trans
    ((at2 (V m c main_arg10) _ j k rfl rfl).trans (congrFun (V_main_arg10 m c) _))
  b2q k := (View.read_apply _ _).trans
    ((at2 (V m c main_v5) _ 0 k rfl rfl).trans (entry_v5 m c k))

/-- The first prefetched table is the text lengths. -/
theorem table0 (b : Fin 8) : (tbl m 0 : (⟨S8, .i32⟩ : BufTy).Contents (Elt Ideal)) (ix1 b) = (args m c).tl b := by
  rw [← V_pre m c 0]
  exact congrFun (V_main_arg2 m c) _

/-- The second is the frame lengths. -/
theorem table1 (b : Fin 8) : (tbl m 1 : (⟨S8, .i32⟩ : BufTy).Contents (Elt Ideal)) (ix1 b) = (args m c).fl b := by
  rw [← V_pre m c 1]
  exact congrFun (V_main_arg3 m c) _

end Cert.Proof.Inputs

end
-- ==== Proof.Value.Finals.lean ====
/- What the kernel's run leaves in its four output arrays: every grid point writes back its own batch entry's block, the
   blocks fill the arrays, so each array ends at the specification's values. -/
module

public import proofs.«01_k».proof.Proof.Value.Inputs
public import Idealize.ShloMosaic.Lib.Pipeline.Value

@[expose] public section

set_option maxRecDepth 16384

noncomputable section

namespace Cert.Proof.Finals

open Idealize.ShloMosaic Idealize.ShloMosaic.TcCoe Idealize.SL.Sem Cert.KernelIdeal Cert.KernelIdeal.Gen Cert.Proof.Inputs
open Idealize.ShloMosaic.Pipeline (Dat)

variable (m : (ℓ : Loc nD τ sig) → Buf (Elt Ideal) ℓ) (c : Dev nD) (hO : Ok m) (hA : (args m c).InRange)

/-- The regulated text, as an array. -/
def outArr : FVec Ideal S8x512x256 .f32 := fun j => Spec.out (args m c) (j 0) (j 1) (j 2)

/-- The prior's array. -/
def pArr : FVec Ideal S8x512x2 .f32 := fun j => Spec.outP (args m c) (j 0) (j 1) (j 2)

/-- The posterior's array. -/
def qArr : FVec Ideal S8x512x2 .f32 := fun j => Spec.outQ (args m c) (j 0) (j 1) (j 2)

/-- The energies' sums, one row of equal entries per batch entry. -/
def numArr : FVec Ideal S8x1x128 .f32 := fun j => Spec.num (args m c) (j 0)

/-- An index of a block of one batch entry, by its other two coordinates. -/
theorem lead {n1 n2 : ℕ} (j : (⟨3, ![1, n1, n2]⟩ : Shape).Idx) : j = ix3 0 (j 1) (j 2) := by
  funext a
  match a with
  | ⟨0, _⟩ => exact Subsingleton.elim (α := Fin 1) _ _
  | ⟨1, _⟩ => rfl
  | ⟨2, _⟩ => rfl

include hA in
/-- What a grid point stores in its four output blocks: its batch entry's part of the arrays. -/
theorem stored (t : Fin grid0.N) :
    (∀ j : S1x512x256.Idx, ((outsAt0 m hO c t).1 : Vec Ideal S1x512x256 .f32) j = outArr m c (ix3 (entryOf t) (j 1) (j 2)))
    ∧ (∀ j : S1x512x2.Idx, ((outsAt0 m hO c t).2.1 : Vec Ideal S1x512x2 .f32) j = pArr m c (ix3 (entryOf t) (j 1) (j 2)))
    ∧ (∀ j : S1x512x2.Idx, ((outsAt0 m hO c t).2.2.1 : Vec Ideal S1x512x2 .f32) j = qArr m c (ix3 (entryOf t) (j 1) (j 2)))
    ∧ (∀ j : S1x1x128.Idx, ((outsAt0 m hO c t).2.2.2 : Vec Ideal S1x1x128 .f32) j = numArr m c (ix3 (entryOf t) (j 1) (j 2))) := by
  unfold outsAt0
  dsimp only
  have h := Blocks.outs c (grid0.coords t) (ms0_0 m hO t) (hs0_0 m hO t) (ms0_1 m hO t) (hs0_1 m hO t) (ms0_2 m hO t) (hs0_2 m hO t)
    (ms0_3 m hO t) (hs0_3 m hO t) (ms0_4 m hO t) (hs0_4 m hO t) (ms0_5 m hO t) (hs0_5 m hO t) (ms0_6 m hO t) (hs0_6 m
    hO t) (ms0_7 m hO t) (hs0_7 m hO t) (ms0_8 m hO t) (hs0_8 m hO t) (ms0_9 m hO t) (hs0_9 m hO t) (ms0_10 m hO t)
    (hs0_10 m hO t) (ms0_11 m hO t) (hs0_11 m hO t) (ms0_12 m hO t) (hs0_12 m hO t) (ms0_13 m hO t) (hs0_13 m hO t)
    (ms0_14 m hO t) (hs0_14 m hO t) (iblk m hO c 0 t) (iblk m hO c 1 t) (iblk m hO c 2 t) (iblk m hO c 3 t) (iblk m hO
    c 4 t) (iblk m hO c 5 t) (iblk m hO c 6 t) (iblk m hO c 7 t) (iblk m hO c 8 t) (iblk m hO c 9 t) (iblk m hO c 10
    t) (tbl m 0) (tbl m 1) hA (coord t) (holds m c hO t) (table0 m c) (table1 m c)
  exact ⟨fun j => (congrArg _ (lead j)).trans (h.1 (j 1) (j 2)), fun j => (congrArg _ (lead j)).trans (h.2.1 (j 1) (j 2)),
    fun j => (congrArg _ (lead j)).trans (h.2.2.1 (j 1) (j 2)),
    fun j => (congrArg _ ((lead j).trans (congrArg (fun p => ix3 0 p (j 2)) (Subsingleton.elim (α := Fin 1) (j 1) 0)))).trans
      (h.2.2.2 (j 2))⟩

/-- An index lies in a block of one batch entry that covers the other two axes. -/
theorem inBlock {n0 n1 n2 : ℕ} (i : (⟨3, ![n0, n1, n2]⟩ : Shape).Idx) (off : Fin 3 → ℕ) (inb)
    (h0 : off 0 = (i 0).val) (h1 : off 1 = 0 * n1) (h2 : off 2 = 0 * n2) :
    i ∈ (Rect.unit (s := ⟨3, ![n0, n1, n2]⟩) off ![1, n1, n2] inb).set := by
  refine Rect.mem_set_unit.mpr fun a => ?_
  have l1 : (i 1).val < n1 := (i 1).isLt
  have l2 : (i 2).val < n2 := (i 2).isLt
  match a with
  | ⟨0, _⟩ => show off 0 ≤ (i 0).val ∧ (i 0).val < off 0 + 1; omega
  | ⟨1, _⟩ => show off 1 ≤ (i 1).val ∧ (i 1).val < off 1 + n1; omega
  | ⟨2, _⟩ => show off 2 ≤ (i 2).val ∧ (i 2).val < off 2 + n2; omega

/-- The grid point of a batch entry. -/
def pointOf (b : Fin 8) : Fin grid0.N := ⟨b.val, by have := b.isLt; have := N_0; omega⟩

/-- Its blocks start at that entry. -/
theorem pointOf_start (b : Fin 8) : cc0_transform_0 (grid0.coords (pointOf b)) 0 * 1 = b.val := by
  have : cc0_transform_0 (grid0.coords (pointOf b)) 0 = b.val := index (pointOf b)
  omega

include hA in
/-- The regulated text's array ends at the specification's values: each grid point writes back its block of it, and the blocks
    cover it. -/
theorem final11 : (dats m hO 0 c).arrAt 11 (cfgM m hO).N = outArr m c :=
  (dats m hO 0 c).arrAt_eq_of_cover 11 (outArr m c)
    (fun t _ => (congrArg (((cfgM m hO).win 11).cut (grid0.coords t)) (after0_11 m hO c t)).trans
      (funext fun (j : S1x512x256.Idx) => ((stored m c hO hA t).1 j).trans
        (Eq.symm ((View.read_apply _ _).trans (at3 (outArr m c) _ (entryOf t) (j 1) (j 2) (start t (j 0)) rfl rfl)))))
    (fun (i : S8x512x256.Idx) => ⟨pointOf (i 0), flush0_11 _ _,
      (congrArg (fun s => i ∈ s) (View.set_slice_whole main_v8_0 _)).mpr (inBlock i _ _ (pointOf_start (i 0)) rfl rfl)⟩)

include hA in
/-- The prior's array ends at the specification's values: each grid point writes back its block of it, and the blocks
    cover it. -/
theorem final12 : (dats m hO 0 c).arrAt 12 (cfgM m hO).N = pArr m c :=
  (dats m hO 0 c).arrAt_eq_of_cover 12 (pArr m c)
    (fun t _ => (congrArg (((cfgM m hO).win 12).cut (grid0.coords t)) (after0_12 m hO c t)).trans
      (funext fun (j : S1x512x2.Idx) => ((stored m c hO hA t).2.1 j).trans
        (Eq.symm ((View.read_apply _ _).trans (at3 (pArr m c) _ (entryOf t) (j 1) (j 2) (start t (j 0)) rfl rfl)))))
    (fun (i : S8x512x2.Idx) => ⟨pointOf (i 0), flush0_12 _ _,
      (congrArg (fun s => i ∈ s) (View.set_slice_whole main_v8_1 _)).mpr (inBlock i _ _ (pointOf_start (i 0)) rfl rfl)⟩)

include hA in
/-- The posterior's array ends at the specification's values: each grid point writes back its block of it, and the blocks
    cover it. -/
theorem final13 : (dats m hO 0 c).arrAt 13 (cfgM m hO).N = qArr m c :=
  (dats m hO 0 c).arrAt_eq_of_cover 13 (qArr m c)
    (fun t _ => (congrArg (((cfgM m hO).win 13).cut (grid0.coords t)) (after0_13 m hO c t)).trans
      (funext fun (j : S1x512x2.Idx) => ((stored m c hO hA t).2.2.1 j).trans
        (Eq.symm ((View.read_apply _ _).trans (at3 (qArr m c) _ (entryOf t) (j 1) (j 2) (start t (j 0)) rfl rfl)))))
    (fun (i : S8x512x2.Idx) => ⟨pointOf (i 0), flush0_13 _ _,
      (congrArg (fun s => i ∈ s) (View.set_slice_whole main_v8_2 _)).mpr (inBlock i _ _ (pointOf_start (i 0)) rfl rfl)⟩)

include hA in
/-- The array of the distances' sums ends at the specification's values: each grid point writes back its block of it, and the blocks
    cover it. -/
theorem final14 : (dats m hO 0 c).arrAt 14 (cfgM m hO).N = numArr m c :=
  (dats m hO 0 c).arrAt_eq_of_cover 14 (numArr m c)
    (fun t _ => (congrArg (((cfgM m hO).win 14).cut (grid0.coords t)) (after0_14 m hO c t)).trans
      (funext fun (j : S1x1x128.Idx) => ((stored m c hO hA t).2.2.2 j).trans
        (Eq.symm ((View.read_apply _ _).trans (at3 (numArr m c) _ (entryOf t) (j 1) (j 2) (start t (j 0)) rfl rfl)))))
    (fun (i : S8x1x128.Idx) => ⟨pointOf (i 0), flush0_14 _ _,
      (congrArg (fun s => i ∈ s) (View.set_slice_whole main_v8_3 _)).mpr (inBlock i _ _ (pointOf_start (i 0)) rfl rfl)⟩)

end Cert.Proof.Finals

end
-- ==== Proof.Value.Tail.lean ====
/- The host lines after the region: the energies' sums added up and divided by the number of frames. -/
module

public import proofs.«01_k».proof.Proof.Value.Finals

@[expose] public section

set_option maxRecDepth 16384

noncomputable section

namespace Cert.Proof.Tail

open Idealize.ShloMosaic Idealize.ShloMosaic.TcCoe Idealize.SL.Sem Cert.KernelIdeal Cert.KernelIdeal.Gen Cert.Proof.Inputs

variable (m : (ℓ : Loc nD τ sig) → Buf (Elt Ideal) ℓ) (c : Dev nD)

/-- The last host lines, from any contents. -/
theorem lines (W : Valuation τ sig (Elt Ideal)) :
    (StableHlo.after (hostOps1 (F := Ideal)) W (Proc.devRef .tc main_v12) : FVec Ideal S_ .f32) ix0
      = (Ideal.div (∑ b : Fin 8, ((W (Proc.devRef .tc main_v8_3) : FVec Ideal S8x1x128 .f32) (ix3 b 0 0) : EReal))
          ((W (Proc.devRef .tc main_v7) : FVec Ideal S_ .f32) ix0) : EReal) := by
  after_reads_at

/-- Eight words between 1 and 512 add up without wrapping. -/
theorem fold_toInt (f : Fin 8 → BitVec 32) (lo : ∀ b, 1 ≤ (f b).toInt) (hi : ∀ b, (f b).toInt ≤ 512) (s : Finset (Fin 8)) :
    (Finset.fold IntOp.addi 0#32 f s).toInt = ∑ b ∈ s, (f b).toInt := by
  have hsum : ∀ s : Finset (Fin 8), 0 ≤ ∑ b ∈ s, (f b).toInt ∧ ∑ b ∈ s, (f b).toInt ≤ 512 * 8 := fun s =>
    ⟨Finset.sum_nonneg fun b _ => by have := lo b; omega,
      (Finset.sum_le_sum fun b _ => hi b).trans (by
        have : s.card ≤ 8 := by simpa using Finset.card_le_univ s
        simp only [Finset.sum_const, smul_eq_mul, nsmul_eq_mul]
        push_cast
        omega)⟩
  induction s using Finset.induction_on with
  | empty => rfl
  | insert a s ha ih =>
    have h1 := hsum (insert a s)
    rw [Finset.sum_insert ha] at h1
    rw [Finset.fold_insert ha, Finset.sum_insert ha]
    show (f a + Finset.fold IntOp.addi 0#32 f s).toInt = _
    rw [BitVec.toInt_add, ih, Int.bmod_eq_of_le] <;> omega

/-- A sum of reals, as extended reals. -/
theorem coe_sum (f : Fin 8 → ℝ) (s : Finset (Fin 8)) : ((∑ b ∈ s, f b : ℝ) : EReal) = ∑ b ∈ s, (f b : EReal) := by
  induction s using Finset.induction_on with
  | empty => simp
  | insert a s ha ih => rw [Finset.sum_insert ha, Finset.sum_insert ha, EReal.coe_add, ih]

/-- The number of frames, before the region. -/
theorem total (hA : (args m c).InRange) :
    (V m c main_v7 : FVec Ideal S_ .f32) ix0 = (∑ b, Spec.real ((args m c).fl b) : EReal) := by
  have e : (V m c main_v7 : FVec Ideal S_ .f32) ix0
      = (Spec.real (Finset.fold IntOp.addi 0#32 (args m c).fl Finset.univ) : EReal) := by
    unfold V V0 args
    after_reads_at
    rfl
  rw [e]
  unfold Spec.real
  rw [fold_toInt _ hA.fl_lo hA.fl_hi]
  push_cast
  exact coe_sum _ _

/-- The scalar result. -/
theorem scalar (hO : Ok m) (hA : (args m c).InRange) :
    (Pipeline.afterTail pcfgs (fun _ => adm m hO) (dats m hO) 0 (V0 m) [hostOps1] c main_v12 : FVec Ideal S_ .f32) ix0
      = (Spec.func (args m c) : EReal) := by
  unfold Pipeline.afterTail
  refine (lines _).trans ?_
  have h7 : Pipeline.withArrays spec0 c (V0 m c) (fun w => (dats m hO 0 c).arrAt w (cfgM m hO).N) (Proc.devRef .tc main_v7) = V m c main_v7 :=
    Pipeline.withArrays_of_ne _ c (V0 m c) _ main_v7 (by exact (by decide : ∀ w, Pipeline.arrRef spec0 w ≠ main_v7))
  have h8 : Pipeline.withArrays spec0 c (V0 m c) (fun w => (dats m hO 0 c).arrAt w (cfgM m hO).N) (Proc.devRef .tc main_v8_3) = Finals.numArr m c :=
    (Pipeline.withArrays_arr spec0 winFacts0.2 c (V0 m c) (fun w => (dats m hO 0 c).arrAt w (cfgM m hO).N) 14).trans (Finals.final14 m c hO hA)
  unfold Spec.func
  refine congrArg₂ Ideal.div (Finset.sum_congr rfl fun b _ => ?_) ?_
  · exact congrFun h8 (ix3 b 0 0)
  · exact (congrFun h7 ix0).trans (total m c hA)

end Cert.Proof.Tail

end
-- ==== Proof.Value.Range.lean ====
/- The precondition, read: every length is in its range. -/
module

public import proofs.«01_k».proof.Defs
public import proofs.«01_k».proof.Proof.Gen.Pre_lengths_in_range
public import proofs.«01_k».proof.Proof.Value.Inputs

@[expose] public section

noncomputable section

namespace Cert.Proof.Range

open Idealize.ShloMosaic Idealize.ShloMosaic.TcCoe Idealize.SL.Sem Cert.Pre_lengths_in_range

/-- The range test of one batch entry, as a bit. -/
def bit (t f : BitVec 32) : BitVec 1 :=
  IntOp.andi (IntOp.andi (IntOp.cmpi .sge t 1#32) (IntOp.cmpi .sle t 128#32))
    (IntOp.andi (IntOp.cmpi .sge f 1#32) (IntOp.cmpi .sle f 512#32))

/-- One-bit words conjoined are one only if each is. -/
theorem of_fold (g : Fin 8 → BitVec 1) (s : Finset (Fin 8)) (h : Finset.fold IntOp.andi 1#1 g s = 1#1) : ∀ b ∈ s, g b = 1#1 := by
  induction s using Finset.induction_on with
  | empty => simp
  | insert a s ha ih =>
    rw [Finset.fold_insert ha] at h
    have two : ∀ u v : BitVec 1, IntOp.andi u v = 1#1 → u = 1#1 ∧ v = 1#1 := by decide
    obtain ⟨h1, h2⟩ := two _ _ h
    intro b hb
    rcases Finset.mem_insert.mp hb with rfl | hb
    · exact h1
    · exact ih h2 b hb

/-- A truth value's bit is one only if the value is true. -/
theorem one_of_bit (b : Bool) (h : BitVec.ofBool b = 1#1) : b = true := by
  cases b with
  | false => exact absurd h (by decide)
  | true => rfl

/-- The bit, read. -/
theorem of_bit (t f : BitVec 32) (h : bit t f = 1#1) :
    (1 ≤ t.toInt ∧ t.toInt ≤ 128) ∧ 1 ≤ f.toInt ∧ f.toInt ≤ 512 := by
  have two : ∀ u v : BitVec 1, IntOp.andi u v = 1#1 → u = 1#1 ∧ v = 1#1 := by decide
  obtain ⟨h1, h2⟩ := two _ _ h
  obtain ⟨h3, h4⟩ := two _ _ h1
  obtain ⟨h5, h6⟩ := two _ _ h2
  have ge : ∀ u : BitVec 32, IntOp.cmpi .sge u 1#32 = 1#1 → 1 ≤ u.toInt := fun u hu => by
    have : BitVec.ofBool ((1#32).sle u) = 1#1 := hu
    have := one_of_bit _ this
    simpa [BitVec.sle] using this
  have le : ∀ u v : BitVec 32, IntOp.cmpi .sle u v = 1#1 → u.toInt ≤ v.toInt := fun u v hu => by
    have : BitVec.ofBool (u.sle v) = 1#1 := hu
    have := one_of_bit _ this
    simpa [BitVec.sle] using this
  exact ⟨⟨ge _ h3, le _ _ h4⟩, ge _ h5, le _ _ h6⟩

/-- The predicate's one element. -/
theorem fn_eq (a0 : FVec Ideal S8x128x256 .f32) (a1 : FVec Ideal S8x512x80 .f32) (a2 a3 : IVec S8 32)
    (a4 : FVec Ideal S256x256 .f32) (a5 : FVec Ideal S256 .f32) (a6 : FVec Ideal S256x2 .f32) (a7 : FVec Ideal S2 .f32)
    (a8 : FVec Ideal S336x256 .f32) (a9 : FVec Ideal S256 .f32) (a10 : FVec Ideal S256x2 .f32) (a11 : FVec Ideal S2 .f32) :
    fn (F := Ideal) a0 a1 a2 a3 a4 a5 a6 a7 a8 a9 a10 a11 ix0
      = Finset.fold IntOp.andi 1#1 (fun b : Fin 8 => bit (a2 (ix1 b)) (a3 (ix1 b))) Finset.univ := by
  pointwise [fn, bit]

/-- The kernel's lengths are in range under the precondition. -/
theorem inRange (m : (ℓ : Loc Cert.KernelIdeal.nD Cert.KernelIdeal.τ Cert.KernelIdeal.sig) → Buf (Elt Ideal) ℓ)
    (h : Cert.Pre_KernelIdeal_lengths_in_range m) (c : Dev Cert.KernelIdeal.nD) : (Inputs.args m c).InRange := by
  have h1 := congrFun (h c) ix0
  rw [fn_eq] at h1
  have h2 := fun b => of_bit _ _ (of_fold _ _ h1 b (Finset.mem_univ b))
  exact ⟨fun b => (h2 b).1.1, fun b => (h2 b).1.2, fun b => (h2 b).2.1, fun b => (h2 b).2.2⟩

end Cert.Proof.Range

end
-- ==== Proof.Value.Algebraic.lean ====
/- The value claim: the kernel's run and the reference's run end at the same four arrays, the specification's. -/
module

public import proofs.«01_k».proof.Defs
public import proofs.«01_k».proof.Proof.Gen.ReferenceIdeal.Run
public import proofs.«01_k».proof.Proof.Value.RefResults
public import proofs.«01_k».proof.Proof.Value.Tail
public import proofs.«01_k».proof.Proof.Value.Range

@[expose] public section

set_option maxRecDepth 16384

noncomputable section

namespace Cert.Proof

open Idealize.ShloMosaic Idealize.ShloMosaic.TcCoe Idealize.SL.Sem

/-- The scalar result, as an array. -/
def scalarArr (A : Spec.Args) : FVec Ideal ⟨0, ![]⟩ .f32 := fun _ => Spec.func A

/-- An array of three axes, by its entries. -/
theorem ext3 {n0 n1 n2 : ℕ} {α : Type} (f g : (⟨3, ![n0, n1, n2]⟩ : Shape).Idx → α)
    (h : ∀ (p : Fin n0) (q : Fin n1) (r : Fin n2), f (ix3 p q r) = g (ix3 p q r)) : f = g := by
  funext x
  obtain ⟨p, q, r, rfl⟩ : ∃ (p : Fin n0) (q : Fin n1) (r : Fin n2), x = ix3 p q r :=
    ⟨x 0, x 1, x 2, funext fun a => by match a with | ⟨0, _⟩ => rfl | ⟨1, _⟩ => rfl | ⟨2, _⟩ => rfl⟩
  exact h p q r

/-- A scalar, by its one entry. -/
theorem ext0 {α : Type} (f g : (⟨0, ![]⟩ : Shape).Idx → α) (h : f ix0 = g ix0) : f = g := by
  funext x
  obtain rfl : x = ix0 := funext fun a => a.elim0
  exact h

section Kernel
open Cert.KernelIdeal Cert.KernelIdeal.Gen Cert.Proof.Inputs Cert.Proof.Finals

/-- The kernel's run: its four results, and its arguments unchanged. -/
theorem kernel_run (m : (ℓ : Loc nD τ sig) → Buf (Elt Ideal) ℓ) (g : Dev nD → PrngReg)
    (hA : ∀ c, (args m c).InRange) :
    θ_run (defs (F := Ideal)) (onTc (τ := τ) (main (F := Ideal))) ⟨m, fun _ => 0, g⟩ (fun r => ∀ c : Dev nD,
      (r.2.mem ((c.tc : Thread nD τ).loc main_v8_0) = outArr m c
      ∧ r.2.mem ((c.tc : Thread nD τ).loc main_v12) = scalarArr (args m c)
      ∧ r.2.mem ((c.tc : Thread nD τ).loc main_v8_1) = pArr m c
      ∧ r.2.mem ((c.tc : Thread nD τ).loc main_v8_2) = qArr m c)) :=
  (θ_run _ _ _).mono (fun _ h c => ⟨((h c).1 11).trans (final11 m c True.intro (hA c)),
      ((h c).2 main_v12 (by decide : main_v12 ∈ Pipeline.restRefs sig spec0)).trans
        (ext0 _ _ (Tail.scalar m c True.intro (hA c))),
      ((h c).1 12).trans (final12 m c True.intro (hA c)), ((h c).1 13).trans (final13 m c True.intro (hA c))⟩)
    (run_main m g True.intro)

end Kernel

/-- The kernel and the reference compute the same four results, as functions of extended reals. -/
theorem algebraic : Cert.algebraic_KernelIdeal_ReferenceIdeal_pre_lengths_in_range := by
  intro m g m' g' hpre hargs
  have hA := fun c => Range.inRange m hpre c
  have hV : ∀ c, Ref.args (StableHlo.launchContents m' c) = Inputs.args m c := fun c => by
    obtain ⟨h0, h1, h2, h3, h4, h5, h6, h7, h8, h9, h10, h11⟩ := hargs c
    have e : ∀ x y tl fl w1 b1 w2 b2 w1q b1q w2q b2q x' y' tl' fl' w1' b1' w2' b2' w1q' b1q' w2q' b2q',
        x' = x → y' = y → tl' = tl → fl' = fl → w1' = w1 → b1' = b1 → w2' = w2 → b2' = b2 → w1q' = w1q → b1q' = b1q →
        w2q' = w2q → b2q' = b2q → (⟨x', y', tl', fl', w1', b1', w2', b2', w1q', b1q', w2q', b2q'⟩ : Spec.Args)
          = ⟨x, y, tl, fl, w1, b1, w2, b2, w1q, b1q, w2q, b2q⟩ := by
      intros; subst_vars; rfl
    exact e _ _ _ _ _ _ _ _ _ _ _ _ _ _ _ _ _ _ _ _ _ _ _ _
      (funext fun b => funext fun i => funext fun d => congrFun h0 (ix3 b i d))
      (funext fun b => funext fun i => funext fun d => congrFun h1 (ix3 b i d))
      (funext fun b => congrFun h2 (ix1 b)) (funext fun b => congrFun h3 (ix1 b))
      (funext fun d => funext fun j => congrFun h4 (ix2 d j)) (funext fun j => congrFun h5 (ix1 j))
      (funext fun d => funext fun j => congrFun h6 (ix2 d j)) (funext fun j => congrFun h7 (ix1 j))
      (funext fun d => funext fun j => congrFun h8 (ix2 d j)) (funext fun j => congrFun h9 (ix1 j))
      (funext fun d => funext fun j => congrFun h10 (ix2 d j)) (funext fun j => congrFun h11 (ix1 j))
  refine ⟨fun c => Finals.outArr m c, fun c => scalarArr (Inputs.args m c), fun c => Finals.pArr m c,
    fun c => Finals.qArr m c, ?_, ?_⟩
  · refine (θ_run _ _ _).mono (fun r h c => ?_) (θ_run_and (kernel_run m g hA) (Cert.KernelIdeal.Gen.unchanged m g True.intro))
    exact ⟨(h.1 c).1, (h.1 c).2.1, (h.1 c).2.2.1, (h.1 c).2.2.2, h.2 c⟩
  · refine (θ_run _ _ _).mono (fun r h c => ?_) (Cert.ReferenceIdeal.Value.run m' g')
    have hA' : (Ref.args (StableHlo.launchContents m' c)).InRange := (hV c).symm ▸ hA c
    obtain ⟨e0, e1, e2, e3, e4⟩ := h c
    refine ⟨e0.trans ?_, e1.trans ?_, e2.trans ?_, e3.trans ?_, e4⟩
    · exact ext3 _ _ fun b t d => (Ref.out_eq (StableHlo.launchContents m' c) hA' b t d).trans (by rw [hV c]; rfl)
    · exact ext0 _ _ ((Ref.func_eq (StableHlo.launchContents m' c) hA').trans (by rw [hV c]; rfl))
    · exact ext3 _ _ fun b t k => (Ref.p_eq (StableHlo.launchContents m' c) hA' b t k).trans (by rw [hV c]; rfl)
    · exact ext3 _ _ fun b t k => (Ref.q_eq (StableHlo.launchContents m' c) hA' b t k).trans (by rw [hV c]; rfl)

end Cert.Proof

end
-- ==== Proof.lean ====
/- The whole claim: the frames of the kernel, of its idealized program and of the reference, the kernel's refinement by
   the idealized program, and the equality of the idealized program's four results with the reference's over the
   extended reals, for lengths within their ranges. -/
module

public import proofs.«01_k».proof.Proof.Frames
public import proofs.«01_k».proof.Proof.Value.Algebraic

@[expose] public section

noncomputable section

namespace Cert.Proof

/-- Every stated claim holds: the three programs' facts and the precondition's, the frames without and with the
    precondition, the kernel's preservation, and the equality of the results. -/
theorem claim : Cert.Claim :=
  ⟨Cert.Kernel.Gen.facts, Cert.KernelIdeal.Gen.facts, Cert.ReferenceIdeal.Gen.facts, Cert.Pre_lengths_in_range.Gen.facts,
    frame_kernel, frame_ideal, frame_ideal_pre, frame_ref, frame_ref_pre, trivial, algebraic⟩

end Cert.Proof

end
